-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_in_range [hKernelIdeal : Cert.KernelIdeal.Facts] [hReferenceIdeal : Cert.ReferenceIdeal.Facts] [hOn_in_range : Cert.On_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 8192, 4096]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v4) i = v0 c i)
          ∧ (∀ i : (⟨3, ![2, 8192, 3584]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v5) i = v1 c i)
          ∧ (∀ i : (⟨3, ![2, 8192, 1]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v6) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 8192, 4096]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v0_0) i = v0 c i)
          ∧ (∀ i : (⟨3, ![2, 8192, 3584]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v0_1) i = v1 c i)
          ∧ (∀ i : (⟨3, ![2, 8192, 1]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v0_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_in_range : Cert.On_in_range.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_in_range (hKernelIdeal := hKernelIdeal) (hReferenceIdeal := hReferenceIdeal) (hOn_in_range := hOn_in_range)
-- ==== On_in_range.lean ====
abbrev S2x8192x3584 : Shape := ⟨3, ![2, 8192, 3584]⟩
abbrev S3584 : Shape := ⟨1, ![3584]⟩
abbrev S3584x4096 : Shape := ⟨2, ![3584, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S2x8192x4096 : Shape := ⟨3, ![2, 8192, 4096]⟩

class Facts : Prop where
  bitsLt_bf16_f32 : FTy.bits .bf16 < FTy.bits .f32
  bcast_S3584_S2x8192x3584_2 : S3584.BroadcastsInDim S2x8192x3584 (![2] : Fin 1 → Fin S2x8192x3584.rank)
  reducesTo_S2x8192x3584_S2x8192_d2 : S2x8192x3584.ReducesTo [2] S2x8192
  h_S_ : 0 < S_.numel
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S2x8192x1_S2x8192x3584_0_1_2 : S2x8192x1.BroadcastsInDim S2x8192x3584 (![0, 1, 2] : Fin 3 → Fin S2x8192x3584.rank)
  bcast_S_S2x8192x3584 : S_.BroadcastsInDim S2x8192x3584 (![] : Fin 0 → Fin S2x8192x3584.rank)
  natLt_8_32 : 8 < 32
  bcast_S_S2x8192x4096 : S_.BroadcastsInDim S2x8192x4096 (![] : Fin 0 → Fin S2x8192x4096.rank)
  dot_S2x8192x3584_S3584x4096_S2x8192x4096_2_0_01_1_n_n_wf : DotDims.WF S2x8192x3584 S3584x4096 S2x8192x4096 [2] [0] [0, 1] [1] [] []

variable [Facts]

def dot_S2x8192x3584_S3584x4096_S2x8192x4096_2_0_01_1_n_n : DotDims S2x8192x3584 S3584x4096 S2x8192x4096 where
  lhsContracting := [2]
  rhsContracting := [0]
  lhsNonContracting := [0, 1]
  rhsNonContracting := [1]
  lhsBatch := []
  rhsBatch := []
  wf := dot_S2x8192x3584_S3584x4096_S2x8192x4096_2_0_01_1_n_n_wf
def fn_part1 {F : FTy → Type} [FloatOps F] (main_arg2 : IVec S3584x4096 8) (main_v16 : FVec F S2x8192x3584 .f32) (main_v17 : FVec F S2x8192x3584 .f32) : IVec S2x8192x4096 1 × IVec S2x8192x3584 1 × IVec S2x8192x1 1 :=
  let main_v18 : FVec F S2x8192x3584 .f32 := maximumf main_v16 main_v17
  let main_v19 : FVec F S2x8192x3584 .f32 := Host.absf main_v18
  let main_v20 : IVec S3584x4096 32 := (extsi 32 · natLt_8_32) main_arg2
  let main_v21 : FVec F S3584x4096 .f32 := sitofp .f32 main_v20
  let main_v22 : FVec F S3584x4096 .f32 := Host.absf main_v21
  let main_v23 : FVec F S2x8192x4096 .f32 := (fun l r => Host.dotGeneral dot_S2x8192x3584_S3584x4096_S2x8192x4096_2_0_01_1_n_n none l r) main_v19 main_v22
  let main_cst_5 : FVec F S_ .f32 := constant S_ .f32 0x4B800000#32
  let main_v24 : FVec F S2x8192x4096 .f32 := broadcastInDim S2x8192x4096 ![] bcast_S_S2x8192x4096 main_cst_5
  let main_v25 : IVec S2x8192x4096 1 := cmpf .olt main_v23 main_v24
  let main_c : IVec S_ 1 := constantI S_ 1 1#1
  let main_v26 : IVec S2x8192x3584 1 := broadcastInDim S2x8192x3584 ![] bcast_S_S2x8192x3584 main_c
  let main_c_6 : IVec S_ 1 := constantI S_ 1 1#1
  let main_v27 : IVec S2x8192x1 1 := broadcastInDim S2x8192x1 ![] bcast_S_S2x8192x1 main_c_6
  (main_v25, main_v26, main_v27)

def fn {F : FTy → Type} [FloatOps F] (main_arg0 : FVec F S2x8192x3584 .bf16) (main_arg1 : FVec F S3584 .f32) (main_arg2 : IVec S3584x4096 8) (main_arg3 : FVec F S4096 .f32) : IVec S2x8192x4096 1 × IVec S2x8192x3584 1 × IVec S2x8192x1 1 :=
  let main_v0 : FVec F S2x8192x3584 .f32 := (extf .f32 · bitsLt_bf16_f32) main_arg0
  let main_v1 : FVec F S2x8192x3584 .f32 := broadcastInDim S2x8192x3584 ![2] bcast_S3584_S2x8192x3584_2 main_arg1
  let main_v2 : FVec F S2x8192x3584 .f32 := Host.divf main_v0 main_v1
  let main_v3 : FVec F S2x8192x3584 .f32 := Host.absf main_v2
  let main_cst : FVec F S_ .f32 := constant S_ .f32 0xFF800000#32
  let main_v4 : FVec F S2x8192 .f32 := (fun x v => Host.reduce FloatOps.maximumf x v reducesTo_S2x8192x3584_S2x8192_d2 h_S_) main_v3 main_cst
  let main_v5 : FVec F S2x8192x1 .f32 := broadcastInDim S2x8192x1 ![0, 1] bcast_S2x8192_S2x8192x1_0_1 main_v4
  let main_cst_0 : FVec F S_ .f32 := constant S_ .f32 0x00000000#32
  let main_v6 : FVec F S2x8192x1 .f32 := broadcastInDim S2x8192x1 ![] bcast_S_S2x8192x1 main_cst_0
  let main_v7 : IVec S2x8192x1 1 := cmpf .oeq main_v5 main_v6
  let main_cst_1 : FVec F S_ .f32 := constant S_ .f32 0x3F800000#32
  let main_v8 : FVec F S2x8192x1 .f32 := broadcastInDim S2x8192x1 ![] bcast_S_S2x8192x1 main_cst_1
  let main_cst_2 : FVec F S_ .f32 := constant S_ .f32 0x42FE0000#32
  let main_v9 : FVec F S2x8192x1 .f32 := broadcastInDim S2x8192x1 ![] bcast_S_S2x8192x1 main_cst_2
  let main_v10 : FVec F S2x8192x1 .f32 := Host.divf main_v5 main_v9
  let main_v11 : FVec F S2x8192x1 .f32 := select main_v7 main_v8 main_v10
  let main_v12 : FVec F S2x8192x3584 .f32 := broadcastInDim S2x8192x3584 ![0, 1, 2] bcast_S2x8192x1_S2x8192x3584_0_1_2 main_v11
  let main_v13 : FVec F S2x8192x3584 .f32 := Host.divf main_v2 main_v12
  let main_v14 : FVec F S2x8192x3584 .f32 := Host.roundeven main_v13
  let main_cst_3 : FVec F S_ .f32 := constant S_ .f32 0x42FE0000#32
  let main_v15 : FVec F S2x8192x3584 .f32 := broadcastInDim S2x8192x3584 ![] bcast_S_S2x8192x3584 main_cst_3
  let main_v16 : FVec F S2x8192x3584 .f32 := minimumf main_v14 main_v15
  let main_cst_4 : FVec F S_ .f32 := constant S_ .f32 0xC2FE0000#32
  let main_v17 : FVec F S2x8192x3584 .f32 := broadcastInDim S2x8192x3584 ![] bcast_S_S2x8192x3584 main_cst_4
  fn_part1 (F := F) main_arg2 main_v16 main_v17
-- ==== Kernel.lean ====
abbrev S2x8192x3584 : Shape := ⟨3, ![2, 8192, 3584]⟩
abbrev S3584 : Shape := ⟨1, ![3584]⟩
abbrev S3584x4096 : Shape := ⟨2, ![3584, 4096]⟩
abbrev S4096 : Shape := ⟨1, ![4096]⟩
abbrev S16384x3584 : Shape := ⟨2, ![16384, 3584]⟩
abbrev S1x3584 : Shape := ⟨2, ![1, 3584]⟩
abbrev S1x4096 : Shape := ⟨2, ![1, 4096]⟩
abbrev S16384x4096 : Shape := ⟨2, ![16384, 4096]⟩
abbrev S16384x1 : Shape := ⟨2, ![16384, 1]⟩
abbrev S256x3584 : Shape := ⟨2, ![256, 3584]⟩
abbrev S256x4096 : Shape := ⟨2, ![256, 4096]⟩
abbrev S256x1 : Shape := ⟨2, ![256, 1]⟩
abbrev S256 : Shape := ⟨1, ![256]⟩
abbrev S2x8192x4096 : Shape := ⟨3, ![2, 8192, 4096]⟩
abbrev S2x8192x1 : Shape := ⟨3, ![2, 8192, 1]⟩

abbrev nBuf : Space → Nat
  | .hbm => 13
  | .vmem => 11
  | .smem => 0
  | _ => 0

abbrev bufTy : (tb : Table) → Fin (tcTables nBuf tb) → BufTy
  | .hbm, ⟨0, _⟩ => ⟨S2x8192x3584, .bf16⟩
  | .hbm, ⟨1, _⟩ => ⟨S3584, .f32⟩
  | .hbm, ⟨2, _⟩ => ⟨S3584x4096, .i8⟩
  | .hbm, ⟨3, _⟩ => ⟨S4096, .f32⟩
  | .hbm, ⟨4, _⟩ => ⟨S16384x3584, .bf16⟩
  | .hbm, ⟨5, _⟩ => ⟨S1x3584, .f32⟩
  | .hbm, ⟨6, _⟩ => ⟨S1x4096, .f32⟩
  | .hbm, ⟨7, _⟩ => ⟨S16384x4096, .bf16⟩
  | .hbm, ⟨8, _⟩ => ⟨S16384x3584, .i8⟩
  | .hbm, ⟨9, _⟩ => ⟨S16384x1, .f32⟩
  | .hbm, ⟨10, _⟩ => ⟨S2x8192x4096, .bf16⟩
  | .hbm, ⟨11, _⟩ => ⟨S2x8192x3584, .i8⟩
  | .hbm, ⟨12, _⟩ => ⟨S2x8192x1, .f32⟩
  | .local _ .vmem, ⟨0, _⟩ => ⟨S256x3584, .bf16⟩
  | .local _ .vmem, ⟨1, _⟩ => ⟨S256x3584, .bf16⟩
  | .local _ .vmem, ⟨2, _⟩ => ⟨S1x3584, .f32⟩
  | .local _ .vmem, ⟨3, _⟩ => ⟨S3584x4096, .i8⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | .local _ .vmem, ⟨7, _⟩ => ⟨S256x3584, .i8⟩
  | .local _ .vmem, ⟨8, _⟩ => ⟨S256x3584, .i8⟩
  | .local _ .vmem, ⟨9, _⟩ => ⟨S256x1, .f32⟩
  | .local _ .vmem, ⟨10, _⟩ => ⟨S256x1, .f32⟩
  | _, _ => ⟨S2x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3584 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x8192x3584 : Shape := ⟨3, ![2, 8192, 3584]⟩
abbrev S3584 : Shape := ⟨1, ![3584]⟩
abbrev S3584x4096 : Shape := ⟨2, ![3584, 4096]⟩
abbrev S4096 : Shape := ⟨1, ![4096]⟩
abbrev S2x8192x4096 : Shape := ⟨3, ![2, 8192, 4096]⟩
abbrev S2x8192x1 : Shape := ⟨3, ![2, 8192, 1]⟩
abbrev S1x1x3584 : Shape := ⟨3, ![1, 1, 3584]⟩
abbrev S2x8192 : Shape := ⟨2, ![2, 8192]⟩
abbrev S1x1x4096 : Shape := ⟨3, ![1, 1, 4096]⟩

abbrev nBuf : Space → Nat
  | .hbm => 7
  | .vmem => 7
  | .smem => 0
  | _ => 0

abbrev bufTy : (tb : Table) → Fin (tcTables nBuf tb) → BufTy
  | .hbm, ⟨0, _⟩ => ⟨S2x8192x3584, .bf16⟩
  | .hbm, ⟨1, _⟩ => ⟨S3584, .f32⟩
  | .hbm, ⟨2, _⟩ => ⟨S3584x4096, .i8⟩
  | .hbm, ⟨3, _⟩ => ⟨S4096, .f32⟩
  | .hbm, ⟨4, _⟩ => ⟨S2x8192x4096, .bf16⟩
  | .hbm, ⟨5, _⟩ => ⟨S2x8192x3584, .i8⟩
  | .hbm, ⟨6, _⟩ => ⟨S2x8192x1, .f32⟩
  | .local _ .vmem, ⟨0, _⟩ => ⟨S2x8192x3584, .bf16⟩
  | .local _ .vmem, ⟨1, _⟩ => ⟨S3584, .f32⟩
  | .local _ .vmem, ⟨2, _⟩ => ⟨S3584x4096, .i8⟩
  | .local _ .vmem, ⟨3, _⟩ => ⟨S4096, .f32⟩
  | .local _ .vmem, ⟨4, _⟩ => ⟨S2x8192x4096, .bf16⟩
  | .local _ .vmem, ⟨5, _⟩ => ⟨S2x8192x3584, .i8⟩
  | .local _ .vmem, ⟨6, _⟩ => ⟨S2x8192x1, .f32⟩
  | _, _ => ⟨S2x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x8192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192x3584 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Reads.lean ====
/-
  How the operations of the three programs are read at one index: broadcasts and shape casts that add or drop unit axes,
  a row's maximum, and a product of a matrix or of a stack of matrices with a matrix as a sum over the contracted
  coordinate. Every statement is for arbitrary extents, so the same lemma serves a block of 256 rows and the whole array.
-/
module

public import Idealize.ShloMosaic.Lib.KernelVsHost
public import Idealize.ShloMosaic.Lib.IntMxu
public import Idealize.ShloMosaic.Lib.Pipeline.Value

@[expose] public section

noncomputable section

namespace Cert.Proof

open Idealize.ShloMosaic Idealize.ShloMosaic.ValueIdx

section Moves
variable {α : Type} {B S M K : Nat}

/-- A single row broadcast to every row of a matrix. -/
theorem broadcast_row (x : (⟨2, ![1, K]⟩ : Shape).Idx → α) (h : (⟨2, ![1, K]⟩ : Shape).Broadcasts ⟨2, ![M, K]⟩)
    (r : Fin M) (k : Fin K) : broadcastTo ⟨2, ![M, K]⟩ x h (ix2 r k) = x (ix2 0 k) := by
  refine broadcastTo_apply x h _ _ fun a => ?_
  match a with
  | ⟨0, _⟩ => rfl
  | ⟨1, _⟩ =>
    show k.val = if K = 1 then 0 else k.val
    have := k.isLt
    split <;> omega

/-- A column broadcast along every row of a matrix. -/
theorem broadcast_col (x : (⟨2, ![M, 1]⟩ : Shape).Idx → α) (h : (⟨2, ![M, 1]⟩ : Shape).Broadcasts ⟨2, ![M, K]⟩)
    (r : Fin M) (k : Fin K) : broadcastTo ⟨2, ![M, K]⟩ x h (ix2 r k) = x (ix2 r 0) := by
  refine broadcastTo_apply x h _ _ fun a => ?_
  match a with
  | ⟨0, _⟩ =>
    show r.val = if M = 1 then 0 else r.val
    have := r.isLt
    split <;> omega
  | ⟨1, _⟩ => rfl

/-- A single row broadcast to every row of a stack of matrices. -/
theorem broadcast_row3 (x : (⟨3, ![1, 1, K]⟩ : Shape).Idx → α)
    (h : (⟨3, ![1, 1, K]⟩ : Shape).Broadcasts ⟨3, ![B, S, K]⟩) (b : Fin B) (s : Fin S) (k : Fin K) :
    broadcastTo ⟨3, ![B, S, K]⟩ x h (ix3 b s k) = x (ix3 0 0 k) := by
  refine broadcastTo_apply x h _ _ fun a => ?_
  match a with
  | ⟨0, _⟩ => rfl
  | ⟨1, _⟩ => rfl
  | ⟨2, _⟩ =>
    show k.val = if K = 1 then 0 else k.val
    have := k.isLt
    split <;> omega

/-- A stack of columns broadcast along every row of a stack of matrices. -/
theorem broadcast_col3 (x : (⟨3, ![B, S, 1]⟩ : Shape).Idx → α)
    (h : (⟨3, ![B, S, 1]⟩ : Shape).Broadcasts ⟨3, ![B, S, K]⟩) (b : Fin B) (s : Fin S) (k : Fin K) :
    broadcastTo ⟨3, ![B, S, K]⟩ x h (ix3 b s k) = x (ix3 b s 0) := by
  refine broadcastTo_apply x h _ _ fun a => ?_
  match a with
  | ⟨0, _⟩ =>
    show b.val = if B = 1 then 0 else b.val
    have := b.isLt
    split <;> omega
  | ⟨1, _⟩ =>
    show s.val = if S = 1 then 0 else s.val
    have := s.isLt
    split <;> omega
  | ⟨2, _⟩ => rfl

/-- A vector broadcast by the host along the last axis of a stack of matrices. -/
theorem hostBroadcast_row3 (x : (⟨1, ![K]⟩ : Shape).Idx → α)
    (h : (⟨1, ![K]⟩ : Shape).BroadcastsInDim ⟨3, ![B, S, K]⟩ ![2]) (b : Fin B) (s : Fin S) (k : Fin K) :
    broadcastInDim ⟨3, ![B, S, K]⟩ ![2] h x (ix3 b s k) = x (ix1 k) := by
  refine broadcastInDim_apply _ h x _ _ fun a => ?_
  match a with
  | ⟨0, _⟩ =>
    show k.val = if K = 1 then 0 else k.val
    have := k.isLt
    split <;> omega

/-- A matrix made by the host into a stack of columns. -/
theorem hostBroadcast_unit3 (x : (⟨2, ![B, S]⟩ : Shape).Idx → α)
    (h : (⟨2, ![B, S]⟩ : Shape).BroadcastsInDim ⟨3, ![B, S, 1]⟩ ![0, 1]) (b : Fin B) (s : Fin S) :
    broadcastInDim ⟨3, ![B, S, 1]⟩ ![0, 1] h x (ix3 b s 0) = x (ix2 b s) := by
  refine broadcastInDim_apply _ h x _ _ fun a => ?_
  match a with
  | ⟨0, _⟩ =>
    show b.val = if B = 1 then 0 else b.val
    have := b.isLt
    split <;> omega
  | ⟨1, _⟩ =>
    show s.val = if S = 1 then 0 else s.val
    have := s.isLt
    split <;> omega

/-- A stack of columns broadcast by the host along every row of a stack of matrices. -/
theorem hostBroadcast_col3 (x : (⟨3, ![B, S, 1]⟩ : Shape).Idx → α)
    (h : (⟨3, ![B, S, 1]⟩ : Shape).BroadcastsInDim ⟨3, ![B, S, K]⟩ ![0, 1, 2]) (b : Fin B) (s : Fin S) (k : Fin K) :
    broadcastInDim ⟨3, ![B, S, K]⟩ ![0, 1, 2] h x (ix3 b s k) = x (ix3 b s 0) := by
  refine broadcastInDim_apply _ h x _ _ fun a => ?_
  match a with
  | ⟨0, _⟩ =>
    show b.val = if B = 1 then 0 else b.val
    have := b.isLt
    split <;> omega
  | ⟨1, _⟩ =>
    show s.val = if S = 1 then 0 else s.val
    have := s.isLt
    split <;> omega
  | ⟨2, _⟩ => rfl

/-- A cast to the shape a vector already has. -/
theorem cast_self {s : Shape} (x : s.Idx → α) (h : s.ShapeCasts s) (i : s.Idx) : shapeCast s x h i = x i :=
  shapeCast_apply x h i i rfl

/-- A vector as a column. -/
theorem cast_col (x : (⟨1, ![M]⟩ : Shape).Idx → α) (h : (⟨1, ![M]⟩ : Shape).ShapeCasts ⟨2, ![M, 1]⟩) (r : Fin M) :
    shapeCast ⟨2, ![M, 1]⟩ x h (ix2 r 0) = x (ix1 r) := by
  refine shapeCast_apply x h _ _ ?_
  rw [Shape.rowMajor_val_one, Shape.rowMajor_val_two]
  show r.val = r.val * 1 + 0
  omega

/-- A vector as a matrix of one row. -/
theorem cast_row (x : (⟨1, ![K]⟩ : Shape).Idx → α) (h : (⟨1, ![K]⟩ : Shape).ShapeCasts ⟨2, ![1, K]⟩) (k : Fin K) :
    shapeCast ⟨2, ![1, K]⟩ x h (ix2 0 k) = x (ix1 k) := by
  refine shapeCast_apply x h _ _ ?_
  rw [Shape.rowMajor_val_one, Shape.rowMajor_val_two]
  show k.val = 0 * K + k.val
  omega

/-- A vector as a stack of one matrix of one row. -/
theorem cast_row3 (x : (⟨1, ![K]⟩ : Shape).Idx → α) (h : (⟨1, ![K]⟩ : Shape).ShapeCasts ⟨3, ![1, 1, K]⟩) (k : Fin K) :
    shapeCast ⟨3, ![1, 1, K]⟩ x h (ix3 0 0 k) = x (ix1 k) := by
  refine shapeCast_apply x h _ _ ?_
  rw [Shape.rowMajor_val_one, Shape.rowMajor_val_three]
  show k.val = (0 * 1 + 0) * K + k.val
  omega

/-- A matrix as a stack of columns. -/
theorem cast_col3 (x : (⟨2, ![B, S]⟩ : Shape).Idx → α) (h : (⟨2, ![B, S]⟩ : Shape).ShapeCasts ⟨3, ![B, S, 1]⟩)
    (b : Fin B) (s : Fin S) : shapeCast ⟨3, ![B, S, 1]⟩ x h (ix3 b s 0) = x (ix2 b s) := by
  refine shapeCast_apply x h _ _ ?_
  rw [Shape.rowMajor_val_two, Shape.rowMajor_val_three]
  show b.val * S + s.val = (b.val * S + s.val) * 1 + 0
  omega

/-- A stack of matrices as one matrix of all its rows: row `r` is row `s` of matrix `b` where `r = b·S + s`. -/
theorem cast_rows (x : (⟨3, ![B, S, K]⟩ : Shape).Idx → α) (h : (⟨3, ![B, S, K]⟩ : Shape).ShapeCasts ⟨2, ![M, K]⟩)
    (r : Fin M) (k : Fin K) (b : Fin B) (s : Fin S) (e : r.val = b.val * S + s.val) :
    shapeCast ⟨2, ![M, K]⟩ x h (ix2 r k) = x (ix3 b s k) := by
  refine shapeCast_apply x h _ _ ?_
  rw [Shape.rowMajor_val_three, Shape.rowMajor_val_two]
  show (b.val * S + s.val) * K + k.val = r.val * K + k.val
  rw [e]

/-- One matrix of all the rows as a stack of matrices. -/
theorem cast_stack (x : (⟨2, ![M, K]⟩ : Shape).Idx → α) (h : (⟨2, ![M, K]⟩ : Shape).ShapeCasts ⟨3, ![B, S, K]⟩)
    (r : Fin M) (k : Fin K) (b : Fin B) (s : Fin S) (e : r.val = b.val * S + s.val) :
    shapeCast ⟨3, ![B, S, K]⟩ x h (ix3 b s k) = x (ix2 r k) := by
  refine shapeCast_apply x h _ _ ?_
  rw [Shape.rowMajor_val_three, Shape.rowMajor_val_two]
  show r.val * K + k.val = (b.val * S + s.val) * K + k.val
  rw [e]

end Moves

section Maxima
variable {B S M K : Nat}

/-- Each row's maximum of a matrix, from an accumulator pattern. -/
theorem rowMax (src : FVec Ideal ⟨2, ![M, K]⟩ .f32) (acc : BitVec 32) (h : (⟨2, ![M, K]⟩ : Shape).Reduces [1] ⟨1, ![M]⟩)
    (hφ) (hacc) (r : Fin M) :
    multiReduction .maximumf [1] ⟨1, ![M]⟩ src acc h hφ hacc (ix1 r)
      = (Finset.univ : Finset (Fin K)).fold max (FloatOps.ofBits .f32 acc) fun k => src (ix2 r k) := by
  rw [Ideal.multiReduction_maximumf_single]
  have e : (src ∘ h.lift (ix1 r)) = fun k : Fin K => src (ix2 r k) := by
    funext k
    refine congrArg src (funext fun a => Fin.ext ?_)
    match a with
    | ⟨0, _⟩ => rfl
    | ⟨1, _⟩ => rfl
  rw [e]
  rfl

/-- Each row's maximum of a stack of matrices, from an accumulator pattern. -/
theorem rowMax3 (src : FVec Ideal ⟨3, ![B, S, K]⟩ .f32) (acc : BitVec 32)
    (h : (⟨3, ![B, S, K]⟩ : Shape).Reduces [2] ⟨2, ![B, S]⟩) (hφ) (hacc) (b : Fin B) (s : Fin S) :
    multiReduction .maximumf [2] ⟨2, ![B, S]⟩ src acc h hφ hacc (ix2 b s)
      = (Finset.univ : Finset (Fin K)).fold max (FloatOps.ofBits .f32 acc) fun k => src (ix3 b s k) := by
  rw [Ideal.multiReduction_maximumf_single]
  have e : (src ∘ h.lift (ix2 b s)) = fun k : Fin K => src (ix3 b s k) := by
    funext k
    refine congrArg src (funext fun a => Fin.ext ?_)
    match a with
    | ⟨0, _⟩ => rfl
    | ⟨1, _⟩ => rfl
    | ⟨2, _⟩ => rfl
  rw [e]
  rfl

end Maxima

section Products
variable {B S M K N : Nat}

/-- A matrix times a matrix: the left operand's row and contracted coordinate. -/
theorem lhs_plain (w) (r : Fin M) (n : Fin N) (k : Fin K) :
    (⟨[1], [0], [0], [1], [], [], w⟩ : DotDims ⟨2, ![M, K]⟩ ⟨2, ![K, N]⟩ ⟨2, ![M, N]⟩).lhsIdx (ix2 r n)
      ((contrEquiv1 (⟨[1], [0], [0], [1], [], [], w⟩ : DotDims ⟨2, ![M, K]⟩ ⟨2, ![K, N]⟩ ⟨2, ![M, N]⟩) K rfl rfl).symm k)
      = ix2 r k := by
  have c := contrEquiv1_symm_val (⟨[1], [0], [0], [1], [], [], w⟩ : DotDims ⟨2, ![M, K]⟩ ⟨2, ![K, N]⟩ ⟨2, ![M, N]⟩) K
    rfl rfl k
  funext ax; apply Fin.ext
  match ax with
  | ⟨0, _⟩ => rfl
  | ⟨1, _⟩ => exact c

/-- A matrix times a matrix: the right operand's contracted coordinate and column. -/
theorem rhs_plain (w) (r : Fin M) (n : Fin N) (k : Fin K) :
    (⟨[1], [0], [0], [1], [], [], w⟩ : DotDims ⟨2, ![M, K]⟩ ⟨2, ![K, N]⟩ ⟨2, ![M, N]⟩).rhsIdx (ix2 r n)
      ((contrEquiv1 (⟨[1], [0], [0], [1], [], [], w⟩ : DotDims ⟨2, ![M, K]⟩ ⟨2, ![K, N]⟩ ⟨2, ![M, N]⟩) K rfl rfl).symm k)
      = ix2 k n := by
  have c := contrEquiv1_symm_val (⟨[1], [0], [0], [1], [], [], w⟩ : DotDims ⟨2, ![M, K]⟩ ⟨2, ![K, N]⟩ ⟨2, ![M, N]⟩) K
    rfl rfl k
  funext ax; apply Fin.ext
  match ax with
  | ⟨0, _⟩ => exact c
  | ⟨1, _⟩ => rfl

/-- A stack of matrices times a matrix: the left operand's matrix, row and contracted coordinate. -/
theorem lhs_stack (w) (b : Fin B) (s : Fin S) (n : Fin N) (k : Fin K) :
    (⟨[2], [0], [0, 1], [1], [], [], w⟩ : DotDims ⟨3, ![B, S, K]⟩ ⟨2, ![K, N]⟩ ⟨3, ![B, S, N]⟩).lhsIdx (ix3 b s n)
      ((contrEquiv1 (⟨[2], [0], [0, 1], [1], [], [], w⟩ : DotDims ⟨3, ![B, S, K]⟩ ⟨2, ![K, N]⟩ ⟨3, ![B, S, N]⟩) K
        rfl rfl).symm k) = ix3 b s k := by
  have c := contrEquiv1_symm_val (⟨[2], [0], [0, 1], [1], [], [], w⟩ : DotDims ⟨3, ![B, S, K]⟩ ⟨2, ![K, N]⟩
    ⟨3, ![B, S, N]⟩) K rfl rfl k
  funext ax; apply Fin.ext
  match ax with
  | ⟨0, _⟩ => rfl
  | ⟨1, _⟩ => rfl
  | ⟨2, _⟩ => exact c

/-- A stack of matrices times a matrix: the right operand's contracted coordinate and column. -/
theorem rhs_stack (w) (b : Fin B) (s : Fin S) (n : Fin N) (k : Fin K) :
    (⟨[2], [0], [0, 1], [1], [], [], w⟩ : DotDims ⟨3, ![B, S, K]⟩ ⟨2, ![K, N]⟩ ⟨3, ![B, S, N]⟩).rhsIdx (ix3 b s n)
      ((contrEquiv1 (⟨[2], [0], [0, 1], [1], [], [], w⟩ : DotDims ⟨3, ![B, S, K]⟩ ⟨2, ![K, N]⟩ ⟨3, ![B, S, N]⟩) K
        rfl rfl).symm k) = ix2 k n := by
  have c := contrEquiv1_symm_val (⟨[2], [0], [0, 1], [1], [], [], w⟩ : DotDims ⟨3, ![B, S, K]⟩ ⟨2, ![K, N]⟩
    ⟨3, ![B, S, N]⟩) K rfl rfl k
  funext ax; apply Fin.ext
  match ax with
  | ⟨0, _⟩ => exact c
  | ⟨1, _⟩ => rfl

/-- The integer product of two matrices at one element, where row `r` of the left is `q` and column `n` of the right is
    `c`, and the total of its terms' magnitudes is `T` or less with `T` in the exact range: the word of the exact sum. -/
theorem matmulI8_plain (g : IntMxuNumerics) (w) (x : IVec ⟨2, ![M, K]⟩ 8) (y : IVec ⟨2, ![K, N]⟩ 8) (r : Fin M)
    (n : Fin N) (q : Fin K → BitVec 8) (hq : ∀ k, x (ix2 r k) = q k)
    (hS : ∑ k : Fin K, ((q k).toInt * (y (ix2 k n)).toInt).natAbs ≤ g.exactUpTo) :
    matmulI8 g (⟨[1], [0], [0], [1], [], [], w⟩ : DotDims ⟨2, ![M, K]⟩ ⟨2, ![K, N]⟩ ⟨2, ![M, N]⟩) x y
      (constantI ⟨2, ![M, N]⟩ 32 0#32) (ix2 r n)
      = BitVec.ofInt 32 (∑ k : Fin K, (q k).toInt * (y (ix2 k n)).toInt) := by
  rw [matmulI8_exact g _ x y _ _ rfl]
  · congr 1
    unfold dotI8
    rw [← Equiv.sum_comp (contrEquiv1 (⟨[1], [0], [0], [1], [], [], w⟩ : DotDims ⟨2, ![M, K]⟩ ⟨2, ![K, N]⟩ ⟨2, ![M, N]⟩)
      K rfl rfl).symm]
    refine Finset.sum_congr rfl fun k _ => ?_
    rw [lhs_plain, rhs_plain, hq]
  · unfold absDotI8
    rw [← Equiv.sum_comp (contrEquiv1 (⟨[1], [0], [0], [1], [], [], w⟩ : DotDims ⟨2, ![M, K]⟩ ⟨2, ![K, N]⟩ ⟨2, ![M, N]⟩)
      K rfl rfl).symm]
    refine le_trans (le_of_eq (Finset.sum_congr rfl fun k _ => ?_)) hS
    rw [lhs_plain, rhs_plain, hq]

/-- The same for a stack of matrices times a matrix. -/
theorem matmulI8_stack (g : IntMxuNumerics) (w) (x : IVec ⟨3, ![B, S, K]⟩ 8) (y : IVec ⟨2, ![K, N]⟩ 8) (b : Fin B)
    (s : Fin S) (n : Fin N) (q : Fin K → BitVec 8) (hq : ∀ k, x (ix3 b s k) = q k)
    (hS : ∑ k : Fin K, ((q k).toInt * (y (ix2 k n)).toInt).natAbs ≤ g.exactUpTo) :
    matmulI8 g (⟨[2], [0], [0, 1], [1], [], [], w⟩ : DotDims ⟨3, ![B, S, K]⟩ ⟨2, ![K, N]⟩ ⟨3, ![B, S, N]⟩) x y
      (constantI ⟨3, ![B, S, N]⟩ 32 0#32) (ix3 b s n)
      = BitVec.ofInt 32 (∑ k : Fin K, (q k).toInt * (y (ix2 k n)).toInt) := by
  rw [matmulI8_exact g _ x y _ _ rfl]
  · congr 1
    unfold dotI8
    rw [← Equiv.sum_comp (contrEquiv1 (⟨[2], [0], [0, 1], [1], [], [], w⟩ : DotDims ⟨3, ![B, S, K]⟩ ⟨2, ![K, N]⟩
      ⟨3, ![B, S, N]⟩) K rfl rfl).symm]
    refine Finset.sum_congr rfl fun k _ => ?_
    rw [lhs_stack, rhs_stack, hq]
  · unfold absDotI8
    rw [← Equiv.sum_comp (contrEquiv1 (⟨[2], [0], [0, 1], [1], [], [], w⟩ : DotDims ⟨3, ![B, S, K]⟩ ⟨2, ![K, N]⟩
      ⟨3, ![B, S, N]⟩) K rfl rfl).symm]
    refine le_trans (le_of_eq (Finset.sum_congr rfl fun k _ => ?_)) hS
    rw [lhs_stack, rhs_stack, hq]

/-- The host's product of a stack of matrices with a matrix, at the ideal values: the sum over the contracted coordinate. -/
theorem hostDot_stack {φ₁ φ₂ : FTy} (w) (prec) (x : FVec Ideal ⟨3, ![B, S, K]⟩ φ₁)
    (y : FVec Ideal ⟨2, ![K, N]⟩ φ₂) (b : Fin B) (s : Fin S) (n : Fin N) :
    (Host.dotGeneral (⟨[2], [0], [0, 1], [1], [], [], w⟩ : DotDims ⟨3, ![B, S, K]⟩ ⟨2, ![K, N]⟩ ⟨3, ![B, S, N]⟩) prec x y
      : FVec Ideal ⟨3, ![B, S, N]⟩ .f32) (ix3 b s n) = ∑ k : Fin K, x (ix3 b s k) * y (ix2 k n) := by
  show FloatOps.dotGeneral _ prec _ x y (ix3 b s n) = _
  rw [Ideal.dotGeneral_apply]
  rw [← Equiv.sum_comp (contrEquiv1 (⟨[2], [0], [0, 1], [1], [], [], w⟩ : DotDims ⟨3, ![B, S, K]⟩ ⟨2, ![K, N]⟩
    ⟨3, ![B, S, N]⟩) K rfl rfl).symm]
  refine Finset.sum_congr rfl fun k _ => ?_
  rw [lhs_stack, rhs_stack]

end Products

end Cert.Proof

end
-- ==== Proof.Rows.lean ====
/-
  What the layer computes of one row, in extended reals: `peak` (the largest magnitude), `scale` (peak / 127, and 1 for a
  zero row), `code` (the entry over the scale, rounded to the nearest integer and clipped to ±127, as an int8) and
  `result` (an integer product times the two scales). Then the facts about a code that the exact integer product needs:
  it is an integer between −127 and 127, and the order of the two clips does not matter.
-/
module

public import Idealize.ShloMosaic.Lib.KernelVsHost

@[expose] public section

noncomputable section

namespace Cert.Proof

open Idealize.ShloMosaic

variable {K : Nat}

/-- The largest magnitude in a row (from the pattern of −∞). -/
def peak (v : Fin K → Ideal .f32) : Ideal .f32 :=
  (Finset.univ : Finset (Fin K)).fold max (FloatOps.ofBits (F := Ideal) .f32 0xFF800000#32)
    fun k => FloatOps.absf (F := Ideal) (φ := .f32) (v k)

/-- The scale of a row whose largest magnitude is `p`: `p / 127`, and 1 where `p` is 0. -/
def scaleOf (p : Ideal .f32) : Ideal .f32 :=
  Scalar.select (FloatOps.cmpf (F := Ideal) (φ := .f32) .oeq p (Scalar.ofBits (F := Ideal) .f32 0x00000000#32))
    (Scalar.ofBits (F := Ideal) .f32 0x3F800000#32)
    (FloatOps.divf (F := Ideal) (φ := .f32) p (Scalar.ofBits (F := Ideal) .f32 0x42FE0000#32))

/-- The scale of a row. -/
def scale (v : Fin K → Ideal .f32) : Ideal .f32 := scaleOf (peak v)

/-- Rounding to the nearest integer, then clipping to ±127. -/
def clip (z : Ideal .f32) : Ideal .f32 :=
  FloatOps.minimumf (F := Ideal) (φ := .f32) (Scalar.ofBits (F := Ideal) .f32 0x42FE0000#32)
    (FloatOps.maximumf (F := Ideal) (φ := .f32) (Scalar.ofBits (F := Ideal) .f32 0xC2FE0000#32)
      (FloatOps.roundeven (F := Ideal) (φ := .f32) z))

/-- The clipped integer of entry `k` of a row, as an extended real. -/
def level (v : Fin K → Ideal .f32) (k : Fin K) : Ideal .f32 :=
  clip (FloatOps.divf (F := Ideal) (φ := .f32) (v k) (scale v))

/-- The int8 code of entry `k` of a row. -/
def code (v : Fin K → Ideal .f32) (k : Fin K) : BitVec 8 := FloatOps.fptosi (F := Ideal) (φ := .f32) 8 (level v k)

/-- An integer product as a float, times the row's scale, times the column's scale. -/
def result (p : BitVec 32) (s t : Ideal .f32) : Ideal .bf16 :=
  FloatOps.mulf (F := Ideal) (φ := .f32)
    (FloatOps.mulf (F := Ideal) (φ := .f32) (FloatOps.sitofp (F := Ideal) .f32 p) s) t

/-- The pattern of 127. -/
theorem ofBits_127 : Ideal.ofBits .f32 0x42FE0000#32 = ((127 : ℝ) : EReal) := by
  simp [Ideal.ofBits, Ideal.ieee, -EReal.coe_mul]; norm_num

/-- The pattern of −127. -/
theorem ofBits_neg127 : Ideal.ofBits .f32 0xC2FE0000#32 = ((-127 : ℝ) : EReal) := by
  simp [Ideal.ofBits, Ideal.ieee, -EReal.coe_mul]; norm_num

/-- The pattern of 2^24. -/
theorem ofBits_2p24 : Ideal.ofBits .f32 0x4B800000#32 = ((16777216 : ℝ) : EReal) := by
  simp [Ideal.ofBits, Ideal.ieee, -EReal.coe_mul]; norm_num

/-- `clip` in the order of the extended reals. -/
theorem clip_def (z : EReal) : clip z
    = min ((127 : ℝ) : EReal) (max ((-127 : ℝ) : EReal) (Ideal.liftRound Ideal.roundHalfEven z)) := by
  rw [← ofBits_127, ← ofBits_neg127]; rfl

/-- Clipping below first or above first is the same. -/
theorem clip_swap (z : EReal) : clip z
    = max (min (Ideal.liftRound Ideal.roundHalfEven z) ((127 : ℝ) : EReal)) ((-127 : ℝ) : EReal) := by
  rw [clip_def, min_max_distrib_left, min_comm ((127 : ℝ) : EReal) (Ideal.liftRound _ _), max_comm]
  congr 1
  exact min_eq_right (EReal.coe_le_coe_iff.2 (by norm_num))

/-- The larger of two reals, as an extended real. -/
theorem coe_max (a b : ℝ) : ((max a b : ℝ) : EReal) = max (a : EReal) (b : EReal) :=
  EReal.coe_strictMono.monotone.map_max

/-- The smaller of two reals, as an extended real. -/
theorem coe_min (a b : ℝ) : ((min a b : ℝ) : EReal) = min (a : EReal) (b : EReal) :=
  EReal.coe_strictMono.monotone.map_min

/-- A clipped value is an integer between −127 and 127. -/
theorem clip_int (z : EReal) : ∃ q : ℤ, -127 ≤ q ∧ q ≤ 127 ∧ clip z = ((q : ℝ) : EReal) := by
  rw [clip_def]
  induction z using EReal.rec with
  | bot =>
    refine ⟨-127, by omega, by omega, ?_⟩
    rw [Ideal.liftRound_bot, max_eq_left bot_le, min_eq_right (EReal.coe_le_coe_iff.2 (by norm_num))]
    norm_num
  | top =>
    refine ⟨127, by omega, by omega, ?_⟩
    rw [Ideal.liftRound_top, max_eq_right le_top, min_eq_left le_top]
    norm_num
  | coe r =>
    refine ⟨min 127 (max (-127) (Ideal.roundHalfEven r)), by omega, by omega, ?_⟩
    rw [Ideal.liftRound_coe, ← coe_max, ← coe_min]
    push_cast
    rfl

/-- The int8 conversion of an integer between −127 and 127 is that integer. -/
theorem toInt_fptosi (q : ℤ) (h₁ : -127 ≤ q) (h₂ : q ≤ 127) : (Ideal.fptosi 8 ((q : ℝ) : EReal)).toInt = q := by
  unfold Ideal.fptosi
  rw [Ideal.toIntClamped_coe, Int.floor_intCast, Int.ceil_intCast, ite_self, BitVec.toInt_ofInt]
  have e : max (-((2 ^ (8 - 1) : Nat) : ℤ)) (min (((2 ^ (8 - 1) : Nat) : ℤ) - 1) q) = q := by
    norm_num
    omega
  rw [e, Int.bmod_def]
  omega

/-- A code read as an extended real is the clipped integer. -/
theorem code_level (v : Fin K → Ideal .f32) (k : Fin K) : level v k = (((code v k).toInt : ℝ) : EReal) := by
  obtain ⟨q, h₁, h₂, e⟩ := clip_int (FloatOps.divf (F := Ideal) (φ := .f32) (v k) (scale v))
  have e' : level v k = ((q : ℝ) : EReal) := e
  have t : (code v k).toInt = q := by
    show (Ideal.fptosi 8 (level v k)).toInt = q
    rw [e', toInt_fptosi q h₁ h₂]
  rw [t, e']

/-- Magnitudes of integers as extended reals multiply to the magnitude of the integer product. -/
theorem abs_mul_abs (a b : ℤ) :
    (max ((a : ℝ) : EReal) (-((a : ℝ) : EReal))) * (max ((b : ℝ) : EReal) (-((b : ℝ) : EReal)))
      = (((a * b).natAbs : ℝ) : EReal) := by
  rw [← EReal.coe_neg, ← EReal.coe_neg, ← coe_max, ← coe_max, ← EReal.coe_mul]
  congr 1
  show |(a : ℝ)| * |(b : ℝ)| = _
  rw [← abs_mul, Nat.cast_natAbs]
  push_cast
  rfl

/-- A sum of naturals, as extended reals. -/
theorem coe_sum_nat {ι : Type} (s : Finset ι) (f : ι → ℕ) :
    ∑ k ∈ s, (((f k : ℕ) : ℝ) : EReal) = ((((∑ k ∈ s, f k : ℕ)) : ℝ) : EReal) := by
  classical
  induction s using Finset.induction_on with
  | empty => simp
  | insert a s ha ih => rw [Finset.sum_insert ha, Finset.sum_insert ha, ih, ← EReal.coe_add]; push_cast; rfl

/-- Where the magnitudes of a row's codes times a column's weights total less than 2^24 as extended reals, the integer
    magnitudes total at most 2^24 − 1. -/
theorem total_le (v : Fin K → Ideal .f32) (w : Fin K → BitVec 8)
    (h : ∑ k : Fin K, (max (level v k) (-(level v k)))
        * (max (((w k).toInt : ℝ) : EReal) (-(((w k).toInt : ℝ) : EReal))) < ((16777216 : ℝ) : EReal)) :
    ∑ k : Fin K, ((code v k).toInt * (w k).toInt).natAbs ≤ 16777215 := by
  have e : ∀ k ∈ (Finset.univ : Finset (Fin K)), (max (level v k) (-(level v k)))
      * (max (((w k).toInt : ℝ) : EReal) (-(((w k).toInt : ℝ) : EReal)))
      = (((((code v k).toInt * (w k).toInt).natAbs : ℕ) : ℝ) : EReal) := fun k _ => by
    rw [code_level, abs_mul_abs]
  rw [Finset.sum_congr rfl e, coe_sum_nat, EReal.coe_lt_coe_iff] at h
  have h' : ∑ k : Fin K, ((code v k).toInt * (w k).toInt).natAbs < 16777216 := by exact_mod_cast h
  omega

end Cert.Proof

end
-- ==== Proof.Block.lean ====
/-
  The values the layer computes from a matrix of rows (extents `M`, `K`, `N` arbitrary), by the operations of the kernel's
  body, each read at one element as the row functions of Rows.lean: the quotient, the scales, the codes and the results.
-/
module

public import proofs.«01_k».proof.Proof.Reads
public import proofs.«01_k».proof.Proof.Rows

@[expose] public section

noncomputable section

namespace Cert.Proof.Block

open Idealize.ShloMosaic Idealize.ShloMosaic.ValueIdx

variable {M K N : Nat} (x : FVec Ideal ⟨2, ![M, K]⟩ .bf16) (sm : FVec Ideal ⟨2, ![1, K]⟩ .f32)
  (hx : (⟨2, ![M, K]⟩ : Shape).ShapeCasts ⟨2, ![M, K]⟩) (hs : (⟨2, ![1, K]⟩ : Shape).ShapeCasts ⟨2, ![1, K]⟩)
  (hlt : FTy.bits .bf16 < FTy.bits .f32) (hb : (⟨2, ![1, K]⟩ : Shape).Broadcasts ⟨2, ![M, K]⟩)
  (hr : (⟨2, ![M, K]⟩ : Shape).Reduces [1] ⟨1, ![M]⟩) (hc : (⟨1, ![M]⟩ : Shape).ShapeCasts ⟨2, ![M, 1]⟩)
  (hbc : (⟨2, ![M, 1]⟩ : Shape).Broadcasts ⟨2, ![M, K]⟩)

/-- Row `r` divided by the smoothing factors. -/
def row (r : Fin M) : Fin K → Ideal .f32 :=
  fun k => FloatOps.divf (F := Ideal) (φ := .f32) (x (ix2 r k)) (sm (ix2 0 k))

/-- The quotient of the rows by the smoothing factors. -/
def quotient : FVec Ideal ⟨2, ![M, K]⟩ .f32 :=
  divf (extf .f32 (shapeCast ⟨2, ![M, K]⟩ x hx) hlt)
    (broadcastTo ⟨2, ![M, K]⟩ (shapeCast ⟨2, ![1, K]⟩ sm hs) hb)

/-- The quotient at one element. -/
theorem quotient_apply (r : Fin M) (k : Fin K) : quotient x sm hx hs hlt hb (ix2 r k) = row x sm r k := by
  have e1 : shapeCast ⟨2, ![M, K]⟩ x hx (ix2 r k) = x (ix2 r k) := cast_self x _ _
  have e2 : broadcastTo ⟨2, ![M, K]⟩ (shapeCast ⟨2, ![1, K]⟩ sm hs) hb (ix2 r k) = sm (ix2 0 k) :=
    (broadcast_row _ _ _ _).trans (cast_self _ _ _)
  show FloatOps.divf (F := Ideal) (φ := .f32) (shapeCast ⟨2, ![M, K]⟩ x hx (ix2 r k))
    (broadcastTo ⟨2, ![M, K]⟩ (shapeCast ⟨2, ![1, K]⟩ sm hs) hb (ix2 r k)) = _
  rw [e1, e2]; rfl

/-- The column of the rows' largest magnitudes, of a quotient `q`. -/
def peaks (q : FVec Ideal ⟨2, ![M, K]⟩ .f32) : FVec Ideal ⟨2, ![M, 1]⟩ .f32 :=
  shapeCast ⟨2, ![M, 1]⟩ (multiReduction .maximumf [1] ⟨1, ![M]⟩ (absf q) 0xFF800000#32 hr (.inl rfl) rfl) hc

/-- The column of the rows' scales, of a quotient `q`. -/
def scales (q : FVec Ideal ⟨2, ![M, K]⟩ .f32) : FVec Ideal ⟨2, ![M, 1]⟩ .f32 :=
  select (cmpf .oeq (peaks hr hc q) (broadcast ⟨2, ![M, 1]⟩ (Scalar.ofBits .f32 0x00000000#32)))
    (broadcast ⟨2, ![M, 1]⟩ (Scalar.ofBits .f32 0x3F800000#32))
    (divf (peaks hr hc q) (broadcast ⟨2, ![M, 1]⟩ (Scalar.ofBits .f32 0x42FE0000#32)))

/-- The scale of one row, where `v` is that row of the quotient. -/
theorem scales_apply (q : FVec Ideal ⟨2, ![M, K]⟩ .f32) (r : Fin M) (v : Fin K → Ideal .f32)
    (hv : ∀ k, q (ix2 r k) = v k) : scales hr hc q (ix2 r 0) = scale v := by
  have e : peaks hr hc q (ix2 r 0) = peak v := by
    refine (cast_col _ _ _).trans ((rowMax _ _ _ _ _ _).trans ?_)
    unfold peak
    refine Finset.fold_congr fun k _ => ?_
    show FloatOps.absf (F := Ideal) (φ := .f32) (q (ix2 r k)) = _
    rw [hv]
  show scaleOf (peaks hr hc q (ix2 r 0)) = _
  rw [e]; rfl

/-- The codes, of a quotient `q` and a column of scales `s`. -/
def codes (q : FVec Ideal ⟨2, ![M, K]⟩ .f32) (s : FVec Ideal ⟨2, ![M, 1]⟩ .f32) : IVec ⟨2, ![M, K]⟩ 8 :=
  fptosi 8 (minimumf (broadcast ⟨2, ![M, K]⟩ (Scalar.ofBits .f32 0x42FE0000#32))
    (maximumf (broadcast ⟨2, ![M, K]⟩ (Scalar.ofBits .f32 0xC2FE0000#32))
      (roundeven (divf q (broadcastTo ⟨2, ![M, K]⟩ s hbc)))))

/-- The code at one element, where `v` is the row of the quotient and its scale is the row's. -/
theorem codes_apply (q : FVec Ideal ⟨2, ![M, K]⟩ .f32) (s : FVec Ideal ⟨2, ![M, 1]⟩ .f32) (r : Fin M) (k : Fin K)
    (v : Fin K → Ideal .f32) (hv : ∀ k, q (ix2 r k) = v k) (hs : s (ix2 r 0) = scale v) :
    codes hbc q s (ix2 r k) = code v k := by
  have e : broadcastTo ⟨2, ![M, K]⟩ s hbc (ix2 r k) = scale v := (broadcast_col _ _ _ _).trans hs
  show FloatOps.fptosi (F := Ideal) (φ := .f32) 8 (clip (FloatOps.divf (F := Ideal) (φ := .f32)
    (q (ix2 r k)) (broadcastTo ⟨2, ![M, K]⟩ s hbc (ix2 r k)))) = _
  rw [hv, e]; rfl

variable (w : IVec ⟨2, ![K, N]⟩ 8) (ws : FVec Ideal ⟨2, ![1, N]⟩ .f32)
  (wf : DotDims.WF ⟨2, ![M, K]⟩ ⟨2, ![K, N]⟩ ⟨2, ![M, N]⟩ [1] [0] [0] [1] [] [])
  (hsN : (⟨2, ![M, 1]⟩ : Shape).Broadcasts ⟨2, ![M, N]⟩) (hwc : (⟨2, ![1, N]⟩ : Shape).ShapeCasts ⟨2, ![1, N]⟩)
  (hwN : (⟨2, ![1, N]⟩ : Shape).Broadcasts ⟨2, ![M, N]⟩)

/-- The results, of the codes `c` and the column of scales `s`. -/
def results (c : IVec ⟨2, ![M, K]⟩ 8) (s : FVec Ideal ⟨2, ![M, 1]⟩ .f32) : FVec Ideal ⟨2, ![M, N]⟩ .bf16 :=
  truncf .bf16 (mulf (mulf (sitofp .f32 (matmulI8 IntMxuNumerics.v7x ⟨[1], [0], [0], [1], [], [], wf⟩ c w
      (constantI ⟨2, ![M, N]⟩ 32 0#32))) (broadcastTo ⟨2, ![M, N]⟩ s hsN))
    (broadcastTo ⟨2, ![M, N]⟩ (shapeCast ⟨2, ![1, N]⟩ ws hwc) hwN)) hlt

/-- The result at one element, where the magnitudes of its integer products total at most 2^24 − 1. -/
theorem results_apply (c : IVec ⟨2, ![M, K]⟩ 8) (s : FVec Ideal ⟨2, ![M, 1]⟩ .f32) (r : Fin M) (n : Fin N)
    (v : Fin K → Ideal .f32) (hv : ∀ k, c (ix2 r k) = code v k) (hs : s (ix2 r 0) = scale v)
    (h : ∑ k : Fin K, ((code v k).toInt * (w (ix2 k n)).toInt).natAbs ≤ 16777215) :
    results hlt w ws wf hsN hwc hwN c s (ix2 r n)
      = result (BitVec.ofInt 32 (∑ k : Fin K, (code v k).toInt * (w (ix2 k n)).toInt)) (scale v) (ws (ix2 0 n)) := by
  have e1 := matmulI8_plain IntMxuNumerics.v7x wf c w r n (code v) hv h
  have e2 : broadcastTo ⟨2, ![M, N]⟩ s hsN (ix2 r n) = scale v := (broadcast_col _ _ _ _).trans hs
  have e3 : broadcastTo ⟨2, ![M, N]⟩ (shapeCast ⟨2, ![1, N]⟩ ws hwc) hwN (ix2 r n) = ws (ix2 0 n) :=
    (broadcast_row _ _ _ _).trans (cast_self _ _ _)
  show result (matmulI8 IntMxuNumerics.v7x ⟨[1], [0], [0], [1], [], [], wf⟩ c w
      (constantI ⟨2, ![M, N]⟩ 32 0#32) (ix2 r n)) (broadcastTo ⟨2, ![M, N]⟩ s hsN (ix2 r n))
    (broadcastTo ⟨2, ![M, N]⟩ (shapeCast ⟨2, ![1, N]⟩ ws hwc) hwN (ix2 r n)) = _
  rw [e1, e2, e3]

end Cert.Proof.Block

end
-- ==== Proof.Whole.lean ====
/-
  The values the layer computes from a stack of matrices (extents `B`, `S`, `K`, `N` arbitrary), by the operations of the
  reference, each read at one element as the row functions of Rows.lean.
-/
module

public import proofs.«01_k».proof.Proof.Reads
public import proofs.«01_k».proof.Proof.Rows

@[expose] public section

noncomputable section

namespace Cert.Proof.Whole

open Idealize.ShloMosaic Idealize.ShloMosaic.ValueIdx

variable {B S K N : Nat} (x : FVec Ideal ⟨3, ![B, S, K]⟩ .bf16) (sm : FVec Ideal ⟨1, ![K]⟩ .f32)
  (hlt : FTy.bits .bf16 < FTy.bits .f32) (hs : (⟨1, ![K]⟩ : Shape).ShapeCasts ⟨3, ![1, 1, K]⟩)
  (hb : (⟨3, ![1, 1, K]⟩ : Shape).Broadcasts ⟨3, ![B, S, K]⟩)
  (hr : (⟨3, ![B, S, K]⟩ : Shape).Reduces [2] ⟨2, ![B, S]⟩) (hc : (⟨2, ![B, S]⟩ : Shape).ShapeCasts ⟨3, ![B, S, 1]⟩)
  (hbc : (⟨3, ![B, S, 1]⟩ : Shape).Broadcasts ⟨3, ![B, S, K]⟩)

/-- Row `s` of matrix `b`, divided by the smoothing factors. -/
def row (b : Fin B) (s : Fin S) : Fin K → Ideal .f32 :=
  fun k => FloatOps.divf (F := Ideal) (φ := .f32) (x (ix3 b s k)) (sm (ix1 k))

/-- The quotient of the rows by the smoothing factors. -/
def quotient : FVec Ideal ⟨3, ![B, S, K]⟩ .f32 :=
  divf (extf .f32 x hlt) (broadcastTo ⟨3, ![B, S, K]⟩ (shapeCast ⟨3, ![1, 1, K]⟩ sm hs) hb)

/-- The quotient at one element. -/
theorem quotient_apply (b : Fin B) (s : Fin S) (k : Fin K) : quotient x sm hlt hs hb (ix3 b s k) = row x sm b s k := by
  have e2 : broadcastTo ⟨3, ![B, S, K]⟩ (shapeCast ⟨3, ![1, 1, K]⟩ sm hs) hb (ix3 b s k) = sm (ix1 k) :=
    (broadcast_row3 _ _ _ _ _).trans (cast_row3 _ _ _)
  show FloatOps.divf (F := Ideal) (φ := .f32) (x (ix3 b s k))
    (broadcastTo ⟨3, ![B, S, K]⟩ (shapeCast ⟨3, ![1, 1, K]⟩ sm hs) hb (ix3 b s k)) = _
  rw [e2]; rfl

/-- The columns of the rows' largest magnitudes, of a quotient `q`. -/
def peaks (q : FVec Ideal ⟨3, ![B, S, K]⟩ .f32) : FVec Ideal ⟨3, ![B, S, 1]⟩ .f32 :=
  shapeCast ⟨3, ![B, S, 1]⟩ (multiReduction .maximumf [2] ⟨2, ![B, S]⟩ (absf q) 0xFF800000#32 hr (.inl rfl) rfl) hc

/-- The columns of the rows' scales, of a quotient `q`. -/
def scales (q : FVec Ideal ⟨3, ![B, S, K]⟩ .f32) : FVec Ideal ⟨3, ![B, S, 1]⟩ .f32 :=
  select (cmpf .oeq (peaks hr hc q) (broadcast ⟨3, ![B, S, 1]⟩ (Scalar.ofBits .f32 0x00000000#32)))
    (broadcast ⟨3, ![B, S, 1]⟩ (Scalar.ofBits .f32 0x3F800000#32))
    (divf (peaks hr hc q) (broadcast ⟨3, ![B, S, 1]⟩ (Scalar.ofBits .f32 0x42FE0000#32)))

/-- The scale of one row, where `v` is that row of the quotient. -/
theorem scales_apply (q : FVec Ideal ⟨3, ![B, S, K]⟩ .f32) (b : Fin B) (s : Fin S) (v : Fin K → Ideal .f32)
    (hv : ∀ k, q (ix3 b s k) = v k) : scales hr hc q (ix3 b s 0) = scale v := by
  have e : peaks hr hc q (ix3 b s 0) = peak v := by
    refine (cast_col3 _ _ _ _).trans ((rowMax3 _ _ _ _ _ _ _).trans ?_)
    unfold peak
    refine Finset.fold_congr fun k _ => ?_
    show FloatOps.absf (F := Ideal) (φ := .f32) (q (ix3 b s k)) = _
    rw [hv]
  show scaleOf (peaks hr hc q (ix3 b s 0)) = _
  rw [e]; rfl

/-- The codes, of a quotient `q` and columns of scales `t`. -/
def codes (q : FVec Ideal ⟨3, ![B, S, K]⟩ .f32) (t : FVec Ideal ⟨3, ![B, S, 1]⟩ .f32) : IVec ⟨3, ![B, S, K]⟩ 8 :=
  fptosi 8 (minimumf (broadcast ⟨3, ![B, S, K]⟩ (Scalar.ofBits .f32 0x42FE0000#32))
    (maximumf (broadcast ⟨3, ![B, S, K]⟩ (Scalar.ofBits .f32 0xC2FE0000#32))
      (roundeven (divf q (broadcastTo ⟨3, ![B, S, K]⟩ t hbc)))))

/-- The code at one element, where `v` is the row of the quotient and its scale is the row's. -/
theorem codes_apply (q : FVec Ideal ⟨3, ![B, S, K]⟩ .f32) (t : FVec Ideal ⟨3, ![B, S, 1]⟩ .f32) (b : Fin B) (s : Fin S)
    (k : Fin K) (v : Fin K → Ideal .f32) (hv : ∀ k, q (ix3 b s k) = v k) (ht : t (ix3 b s 0) = scale v) :
    codes hbc q t (ix3 b s k) = code v k := by
  have e : broadcastTo ⟨3, ![B, S, K]⟩ t hbc (ix3 b s k) = scale v := (broadcast_col3 _ _ _ _ _).trans ht
  show FloatOps.fptosi (F := Ideal) (φ := .f32) 8 (clip (FloatOps.divf (F := Ideal) (φ := .f32)
    (q (ix3 b s k)) (broadcastTo ⟨3, ![B, S, K]⟩ t hbc (ix3 b s k)))) = _
  rw [hv, e]; rfl

variable (w : IVec ⟨2, ![K, N]⟩ 8) (ws : FVec Ideal ⟨1, ![N]⟩ .f32)
  (wf : DotDims.WF ⟨3, ![B, S, K]⟩ ⟨2, ![K, N]⟩ ⟨3, ![B, S, N]⟩ [2] [0] [0, 1] [1] [] [])
  (hsN : (⟨3, ![B, S, 1]⟩ : Shape).Broadcasts ⟨3, ![B, S, N]⟩) (hwc : (⟨1, ![N]⟩ : Shape).ShapeCasts ⟨3, ![1, 1, N]⟩)
  (hwN : (⟨3, ![1, 1, N]⟩ : Shape).Broadcasts ⟨3, ![B, S, N]⟩)

/-- The results, of the codes `c` and the columns of scales `t`. -/
def results (c : IVec ⟨3, ![B, S, K]⟩ 8) (t : FVec Ideal ⟨3, ![B, S, 1]⟩ .f32) : FVec Ideal ⟨3, ![B, S, N]⟩ .bf16 :=
  truncf .bf16 (mulf (mulf (sitofp .f32 (matmulI8 IntMxuNumerics.v7x ⟨[2], [0], [0, 1], [1], [], [], wf⟩ c w
      (constantI ⟨3, ![B, S, N]⟩ 32 0#32))) (broadcastTo ⟨3, ![B, S, N]⟩ t hsN))
    (broadcastTo ⟨3, ![B, S, N]⟩ (shapeCast ⟨3, ![1, 1, N]⟩ ws hwc) hwN)) hlt

/-- The result at one element, where the magnitudes of its integer products total at most 2^24 − 1. -/
theorem results_apply (c : IVec ⟨3, ![B, S, K]⟩ 8) (t : FVec Ideal ⟨3, ![B, S, 1]⟩ .f32) (b : Fin B) (s : Fin S)
    (n : Fin N) (v : Fin K → Ideal .f32) (hv : ∀ k, c (ix3 b s k) = code v k) (ht : t (ix3 b s 0) = scale v)
    (h : ∑ k : Fin K, ((code v k).toInt * (w (ix2 k n)).toInt).natAbs ≤ 16777215) :
    results hlt w ws wf hsN hwc hwN c t (ix3 b s n)
      = result (BitVec.ofInt 32 (∑ k : Fin K, (code v k).toInt * (w (ix2 k n)).toInt)) (scale v) (ws (ix1 n)) := by
  have e1 := matmulI8_stack IntMxuNumerics.v7x wf c w b s n (code v) hv h
  have e2 : broadcastTo ⟨3, ![B, S, N]⟩ t hsN (ix3 b s n) = scale v := (broadcast_col3 _ _ _ _ _).trans ht
  have e3 : broadcastTo ⟨3, ![B, S, N]⟩ (shapeCast ⟨3, ![1, 1, N]⟩ ws hwc) hwN (ix3 b s n) = ws (ix1 n) :=
    (broadcast_row3 _ _ _ _ _).trans (cast_row3 _ _ _)
  show result (matmulI8 IntMxuNumerics.v7x ⟨[2], [0], [0, 1], [1], [], [], wf⟩ c w
      (constantI ⟨3, ![B, S, N]⟩ 32 0#32) (ix3 b s n)) (broadcastTo ⟨3, ![B, S, N]⟩ t hsN (ix3 b s n))
    (broadcastTo ⟨3, ![B, S, N]⟩ (shapeCast ⟨3, ![1, 1, N]⟩ ws hwc) hwN (ix3 b s n)) = _
  rw [e1, e2, e3]

end Cert.Proof.Whole

end
-- ==== Proof.Payloads.lean ====
/-
  The payloads of the kernel's body and of the reference are the values of Block.lean and Whole.lean at their extents, so
  each is read at one element as the row functions of Rows.lean.
-/
module

public import proofs.«01_k».proof.Proof.Gen.KernelIdeal.Skeleton
public import proofs.«01_k».proof.Proof.Gen.ReferenceIdeal.Skeleton
public import proofs.«01_k».proof.Proof.Block
public import proofs.«01_k».proof.Proof.Whole

@[expose] public section

set_option maxRecDepth 16384

noncomputable section

namespace Cert.Proof

open Idealize.ShloMosaic Idealize.ShloMosaic.ValueIdx

section Kernel
open Cert.KernelIdeal Cert.KernelIdeal.Gen

variable (x : FVec Ideal S256x3584 .bf16) (sm : FVec Ideal S1x3584 .f32) (w : IVec S3584x4096 8)
  (ws : FVec Ideal S1x4096 .f32)

theorem kernel_pay1 : k0_pay1 (F := Ideal) x sm = Block.quotient x sm shapeCasts_S256x3584_S256x3584
    shapeCasts_S1x3584_S1x3584 bitsLt_bf16_f32 broadcasts_S1x3584_S256x3584 := by
  unfold k0_pay1 Block.quotient; rfl

theorem kernel_pay2 : k0_pay2 (F := Ideal) x sm
    = Block.scales reduces_S256x3584_S256 shapeCasts_S256_S256x1 (k0_pay1 (F := Ideal) x sm) := by
  unfold k0_pay2 Block.scales Block.peaks; rfl

theorem kernel_pay3 : k0_pay3 (F := Ideal) x sm
    = Block.codes broadcasts_S256x1_S256x3584 (k0_pay1 (F := Ideal) x sm) (k0_pay2 (F := Ideal) x sm) := by
  unfold k0_pay3 Block.codes; rfl

theorem kernel_pay4 : k0_pay4 (F := Ideal) x sm w ws
    = Block.results bitsLt_bf16_f32 w ws dot_S256x3584_S3584x4096_S256x4096_1_0_0_1_n_n.wf broadcasts_S256x1_S256x4096
        shapeCasts_S1x4096_S1x4096 broadcasts_S1x4096_S256x4096 (k0_pay3 (F := Ideal) x sm)
        (k0_pay2 (F := Ideal) x sm) := by
  unfold k0_pay4 Block.results dot_S256x3584_S3584x4096_S256x4096_1_0_0_1_n_n; rfl

/-- The kernel's quotient at one element of a block. -/
theorem block_quotient (r : Fin 256) (k : Fin 3584) :
    k0_pay1 (F := Ideal) x sm (ix2 r k) = Block.row x sm r k := by
  rw [kernel_pay1]; exact Block.quotient_apply _ _ _ _ _ _ _ _

/-- The kernel's scale of one row of a block. -/
theorem block_scale (r : Fin 256) : k0_pay2 (F := Ideal) x sm (ix2 r 0) = scale (Block.row x sm r) := by
  rw [kernel_pay2]; exact Block.scales_apply _ _ _ _ _ (block_quotient x sm r)

/-- The kernel's code at one element of a block. -/
theorem block_code (r : Fin 256) (k : Fin 3584) :
    k0_pay3 (F := Ideal) x sm (ix2 r k) = code (Block.row x sm r) k := by
  rw [kernel_pay3]; exact Block.codes_apply _ _ _ _ _ _ (block_quotient x sm r) (block_scale x sm r)

/-- The kernel's result at one element of a block, where the magnitudes of its integer products total at most 2^24 − 1. -/
theorem block_result (r : Fin 256) (n : Fin 4096)
    (h : ∑ k : Fin 3584, ((code (Block.row x sm r) k).toInt * (w (ix2 k n)).toInt).natAbs ≤ 16777215) :
    k0_pay4 (F := Ideal) x sm w ws (ix2 r n)
      = result (BitVec.ofInt 32 (∑ k : Fin 3584, (code (Block.row x sm r) k).toInt * (w (ix2 k n)).toInt))
          (scale (Block.row x sm r)) (ws (ix2 0 n)) := by
  rw [kernel_pay4]
  exact Block.results_apply _ _ _ _ _ _ _ _ _ _ _ _ (block_code x sm r) (block_scale x sm r) h

end Kernel

section Reference
open Cert.ReferenceIdeal Cert.ReferenceIdeal.Gen

variable (x : FVec Ideal S2x8192x3584 .bf16) (sm : FVec Ideal S3584 .f32) (w : IVec S3584x4096 8)
  (ws : FVec Ideal S4096 .f32)

theorem reference_pay1 : k0_pay1 (F := Ideal) x sm = Whole.quotient x sm bitsLt_bf16_f32
    shapeCasts_S3584_S1x1x3584 broadcasts_S1x1x3584_S2x8192x3584 := by
  unfold k0_pay1 Whole.quotient; rfl

theorem reference_pay2 : k0_pay2 (F := Ideal) x sm
    = Whole.scales reduces_S2x8192x3584_S2x8192 shapeCasts_S2x8192_S2x8192x1 (k0_pay1 (F := Ideal) x sm) := by
  unfold k0_pay2 Whole.scales Whole.peaks; rfl

theorem reference_pay3 : k0_pay3 (F := Ideal) x sm
    = Whole.codes broadcasts_S2x8192x1_S2x8192x3584 (k0_pay1 (F := Ideal) x sm) (k0_pay2 (F := Ideal) x sm) := by
  unfold k0_pay3 Whole.codes; rfl

theorem reference_pay4 : k0_pay4 (F := Ideal) x sm w ws
    = Whole.results bitsLt_bf16_f32 w ws dot_S2x8192x3584_S3584x4096_S2x8192x4096_2_0_01_1_n_n.wf
        broadcasts_S2x8192x1_S2x8192x4096 shapeCasts_S4096_S1x1x4096 broadcasts_S1x1x4096_S2x8192x4096
        (k0_pay3 (F := Ideal) x sm) (k0_pay2 (F := Ideal) x sm) := by
  unfold k0_pay4 Whole.results dot_S2x8192x3584_S3584x4096_S2x8192x4096_2_0_01_1_n_n; rfl

/-- The reference's quotient at one element. -/
theorem whole_quotient (b : Fin 2) (s : Fin 8192) (k : Fin 3584) :
    k0_pay1 (F := Ideal) x sm (ix3 b s k) = Whole.row x sm b s k := by
  rw [reference_pay1]; exact Whole.quotient_apply _ _ _ _ _ _ _ _

/-- The reference's scale of one row. -/
theorem whole_scale (b : Fin 2) (s : Fin 8192) :
    k0_pay2 (F := Ideal) x sm (ix3 b s 0) = scale (Whole.row x sm b s) := by
  rw [reference_pay2]; exact Whole.scales_apply _ _ _ _ _ _ (whole_quotient x sm b s)

/-- The reference's code at one element. -/
theorem whole_code (b : Fin 2) (s : Fin 8192) (k : Fin 3584) :
    k0_pay3 (F := Ideal) x sm (ix3 b s k) = code (Whole.row x sm b s) k := by
  rw [reference_pay3]; exact Whole.codes_apply _ _ _ _ _ _ _ (whole_quotient x sm b s) (whole_scale x sm b s)

/-- The reference's result at one element, where the magnitudes of its integer products total at most 2^24 − 1. -/
theorem whole_result (b : Fin 2) (s : Fin 8192) (n : Fin 4096)
    (h : ∑ k : Fin 3584, ((code (Whole.row x sm b s) k).toInt * (w (ix2 k n)).toInt).natAbs ≤ 16777215) :
    k0_pay4 (F := Ideal) x sm w ws (ix3 b s n)
      = result (BitVec.ofInt 32 (∑ k : Fin 3584, (code (Whole.row x sm b s) k).toInt * (w (ix2 k n)).toInt))
          (scale (Whole.row x sm b s)) (ws (ix1 n)) := by
  rw [reference_pay4]
  exact Whole.results_apply _ _ _ _ _ _ _ _ _ _ _ _ _ (whole_code x sm b s) (whole_scale x sm b s) h

end Reference

end Cert.Proof

end
-- ==== Proof.Arrays.lean ====
/-
  What the kernel's grid leaves in its three result arrays, element by element: point `t` of the grid computes rows
  256·t … 256·t + 255 from the same rows of the input, so each row of each array is the row functions of Rows.lean at that
  row of the input matrix.
-/
module

public import proofs.«01_k».proof.Proof.Gen.KernelIdeal.Frame
public import proofs.«01_k».proof.Proof.Payloads
public import Idealize.ShloMosaic.Lib.Pipeline.ValueKit

@[expose] public section

set_option maxRecDepth 16384

noncomputable section

namespace Cert.Proof.Arrays

open Idealize.ShloMosaic hiding ix1 ix2 ix3 eq_ix1 eq_ix2 eq_ix3
open Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-- The input rows as the grid finds them. -/
abbrev X : FVec Ideal S16384x3584 .bf16 := V m c main_v0
/-- The smoothing factors as the grid finds them. -/
abbrev SM : FVec Ideal S1x3584 .f32 := V m c main_v1
/-- The integer weights as the grid finds them. -/
abbrev WQ : IVec S3584x4096 8 := V m c main_arg2
/-- The weights' scales as the grid finds them. -/
abbrev WS : FVec Ideal S1x4096 .f32 := V m c main_v2

/-- Which block each window is at, at point `t`. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ t.val < 64 :=
  (by decide +kernel : ∀ t : Fin grid0.N, _)

/-- Row `r` of the block at point `t`, as a row of the whole matrix. -/
def rowAt (t : Fin cfg0.N) (r : Fin 256) : Fin 16384 := ⟨256 * t.val + r.val, by
  have := (idx t).2.2.2.2.2.2.2
  have := r.isLt
  omega⟩

theorem read0 (t : Fin cfg0.N) (r : Fin 256) (k : Fin 3584) :
    (iblk m c 0 t : FVec Ideal S256x3584 .bf16) (ix2 r k) = X m c (ix2 (rowAt t r) k) := by
  have e : (rowAt t r).val = 256 * t.val + r.val := rfl
  blk_ext [iblk, idx t, e]
  show t.val * 256 + r.val = 256 * t.val + r.val
  omega

theorem read1 (t : Fin cfg0.N) (k : Fin 3584) :
    (iblk m c 1 t : FVec Ideal S1x3584 .f32) (ix2 0 k) = SM m c (ix2 0 k) := by
  blk_ext [iblk, idx t]

theorem read2 (t : Fin cfg0.N) (k : Fin 3584) (n : Fin 4096) :
    (iblk m c 2 t : IVec S3584x4096 8) (ix2 k n) = WQ m c (ix2 k n) := by
  blk_ext [iblk, idx t]

theorem read3 (t : Fin cfg0.N) (n : Fin 4096) :
    (iblk m c 3 t : FVec Ideal S1x4096 .f32) (ix2 0 n) = WS m c (ix2 0 n) := by
  blk_ext [iblk, idx t]

/-- A row of a block, divided by the smoothing factors, is that row of the whole matrix, divided. -/
theorem row_block (t : Fin cfg0.N) (r : Fin 256) :
    Block.row (iblk m c 0 t : FVec Ideal S256x3584 .bf16) (iblk m c 1 t : FVec Ideal S1x3584 .f32) r
      = Block.row (X m c) (SM m c) (rowAt t r) := by
  funext k
  unfold Block.row
  rw [read0, read1]

/-- The scale the body leaves for one row of its block. -/
theorem point_scale (t : Fin cfg0.N) (r : Fin 256) : k0_pay2 (F := Ideal) (iblk m c 0 t) (iblk m c 1 t) (ix2 r 0)
    = scale (Block.row (X m c) (SM m c) (rowAt t r)) := by
  rw [← row_block]
  exact block_scale _ _ _

/-- The code the body leaves at one element of its block. -/
theorem point_code (t : Fin cfg0.N) (r : Fin 256) (k : Fin 3584) :
    k0_pay3 (F := Ideal) (iblk m c 0 t) (iblk m c 1 t) (ix2 r k)
      = code (Block.row (X m c) (SM m c) (rowAt t r)) k := by
  rw [← row_block]
  exact block_code _ _ _ _

/-- The result the body leaves at one element of its block, where the magnitudes of the integer products total at most
    2^24 − 1. -/
theorem point_result (t : Fin cfg0.N) (r : Fin 256) (n : Fin 4096)
    (h : ∑ k : Fin 3584, ((code (Block.row (X m c) (SM m c) (rowAt t r)) k).toInt * (WQ m c (ix2 k n)).toInt).natAbs
      ≤ 16777215) :
    k0_pay4 (F := Ideal) (iblk m c 0 t) (iblk m c 1 t) (iblk m c 2 t) (iblk m c 3 t) (ix2 r n)
      = result (BitVec.ofInt 32 (∑ k : Fin 3584,
          (code (Block.row (X m c) (SM m c) (rowAt t r)) k).toInt * (WQ m c (ix2 k n)).toInt))
          (scale (Block.row (X m c) (SM m c) (rowAt t r))) (WS m c (ix2 0 n)) := by
  have e : ∀ k, (WQ m c (ix2 k n)) = (iblk m c 2 t : IVec S3584x4096 8) (ix2 k n) := fun k => (read2 m c t k n).symm
  rw [← row_block] at h ⊢
  rw [← read3 m c t n]
  simp only [e] at h ⊢
  exact block_result _ _ _ _ _ _ h

/-- The scales after the run: the scale of each row. -/
theorem scales_at (r : Fin 16384) :
    ((dats m 0 c).arrAt 6 (cfgs 0).N : FVec Ideal S16384x1 .f32) (ix2 r 0) = scale (Block.row (X m c) (SM m c) r) := by
  refine (dats m 0 c).arrAt_forall_of_covers 6
    (fun i v => (v : Ideal .f32) = scale (Block.row (X m c) (SM m c) (i 0 : Fin 16384))) (by decide +kernel)
    (fun t _ y => ?_) (ix2 r 0)
  blk_simp
  rw [after0_6]
  frame_out
  obtain ⟨r, rfl⟩ : ∃ r : Fin 256, y = ix2 r (0 : Fin 1) := by
    refine ⟨y 0, (eq_ix2 y).trans ?_⟩
    congr 1
    exact Subsingleton.elim (α := Fin 1) _ _
  refine (point_scale m c t r).trans (congrArg (fun r => scale (Block.row (X m c) (SM m c) r)) (Fin.ext ?_))
  blk_simp [idx t]
  show 256 * t.val + r.val = t.val * 256 + r.val
  omega

/-- The codes after the run: the code of each entry. -/
theorem codes_at (r : Fin 16384) (k : Fin 3584) :
    ((dats m 0 c).arrAt 5 (cfgs 0).N : IVec S16384x3584 8) (ix2 r k) = code (Block.row (X m c) (SM m c) r) k := by
  refine (dats m 0 c).arrAt_forall_of_covers 5
    (fun i v => (v : BitVec 8) = code (Block.row (X m c) (SM m c) (i 0 : Fin 16384)) (i 1 : Fin 3584)) (by decide +kernel)
    (fun t _ y => ?_) (ix2 r k)
  blk_simp
  rw [after0_5]
  frame_out
  obtain ⟨r, k, rfl⟩ : ∃ (r : Fin 256) (k : Fin 3584), y = ix2 r k := ⟨y 0, y 1, eq_ix2 y⟩
  refine (point_code m c t r k).trans (congrArg₂ (fun r k => code (Block.row (X m c) (SM m c) r) k) (Fin.ext ?_)
    (Fin.ext ?_))
  · blk_simp [idx t]
    show 256 * t.val + r.val = t.val * 256 + r.val
    omega
  · blk_simp [idx t]
    rfl

/-- The results after the run: where the magnitudes of an element's integer products total at most 2^24 − 1, the exact
    product times the two scales. -/
theorem results_at (r : Fin 16384) (n : Fin 4096)
    (h : ∑ k : Fin 3584, ((code (Block.row (X m c) (SM m c) r) k).toInt * (WQ m c (ix2 k n)).toInt).natAbs
      ≤ 16777215) :
    ((dats m 0 c).arrAt 4 (cfgs 0).N : FVec Ideal S16384x4096 .bf16) (ix2 r n)
      = result (BitVec.ofInt 32 (∑ k : Fin 3584,
          (code (Block.row (X m c) (SM m c) r) k).toInt * (WQ m c (ix2 k n)).toInt))
          (scale (Block.row (X m c) (SM m c) r)) (WS m c (ix2 0 n)) := by
  refine (dats m 0 c).arrAt_forall_of_covers 4
    (fun i v => ∀ (r : Fin 16384) (n : Fin 4096), r.val = (i 0).val → n.val = (i 1).val →
      ∑ k : Fin 3584, ((code (Block.row (X m c) (SM m c) r) k).toInt * (WQ m c (ix2 k n)).toInt).natAbs ≤ 16777215 →
      (v : Ideal .bf16) = result (BitVec.ofInt 32 (∑ k : Fin 3584,
          (code (Block.row (X m c) (SM m c) r) k).toInt * (WQ m c (ix2 k n)).toInt))
          (scale (Block.row (X m c) (SM m c) r)) (WS m c (ix2 0 n))) (by decide +kernel)
    (fun t _ y => ?_) (ix2 r n) (Memref.isWhole_whole _) r n rfl rfl h
  intro R N
  blk_simp [idx t]
  rw [after0_4]
  frame_out
  obtain ⟨r, n, rfl⟩ : ∃ (r : Fin 256) (n : Fin 4096), y = ix2 r n := ⟨y 0, y 1, eq_ix2 y⟩
  intro hR hN hS
  obtain rfl : R = rowAt t r := Fin.ext (hR.trans (show t.val * 256 + r.val = 256 * t.val + r.val by omega))
  obtain rfl : N = n := Fin.ext hN
  exact point_result m c t r N hS

end Cert.Proof.Arrays

end
-- ==== Proof.Ends.lean ====
/-
  The host lines around the grid: before it, the input becomes one matrix of all its rows and the two vectors matrices of
  one row; after it, the three result arrays become stacks again. So the kernel's three results, element by element, are
  the row functions of Rows.lean at the argument arrays.
-/
module

public import proofs.«01_k».proof.Proof.Arrays
public import Idealize.ShloMosaic.Lib.Claim

@[expose] public section

set_option maxRecDepth 16384

noncomputable section

namespace Cert.Proof.Ends

open Idealize.ShloMosaic hiding ix1 ix2 ix3 eq_ix1 eq_ix2 eq_ix3
open Idealize.ShloMosaic.TcCoe Idealize.ShloMosaic.ValueIdx Idealize.SL.Sem
open Idealize.ShloMosaic.Pipeline (Dat)
open Cert.KernelIdeal Cert.KernelIdeal.Gen Cert.Proof.Arrays

variable (m : (ℓ : Loc nD τ sig) → Buf (Elt Ideal) ℓ) (c : Dev nD)

/-- The input. -/
abbrev A0 : FVec Ideal S2x8192x3584 .bf16 := m ((c : Thread nD τ).loc main_arg0)
/-- The smoothing factors. -/
abbrev A1 : FVec Ideal S3584 .f32 := m ((c : Thread nD τ).loc main_arg1)
/-- The integer weights. -/
abbrev A2 : IVec S3584x4096 8 := m ((c : Thread nD τ).loc main_arg2)
/-- The weights' scales. -/
abbrev A3 : FVec Ideal S4096 .f32 := m ((c : Thread nD τ).loc main_arg3)

theorem X_eq : X m c = shapeCast S16384x3584 (A0 m c) shapeCasts_S2x8192x3584_S16384x3584 := by
  unfold X V V0
  simp only [hostOps0, List.flatten_cons, List.flatten_nil, List.append_nil, List.cons_append, List.nil_append]
  after_results
  rfl

theorem SM_eq : SM m c = shapeCast S1x3584 (A1 m c) shapeCasts_S3584_S1x3584 := by
  unfold SM V V0
  simp only [hostOps0, List.flatten_cons, List.flatten_nil, List.append_nil, List.cons_append, List.nil_append]
  after_results
  rfl

theorem WQ_eq : WQ m c = A2 m c := V_main_arg2 m c

theorem WS_eq : WS m c = shapeCast S1x4096 (A3 m c) shapeCasts_S4096_S1x4096 := by
  unfold WS V V0
  simp only [hostOps0, List.flatten_cons, List.flatten_nil, List.append_nil, List.cons_append, List.nil_append]
  after_results
  rfl

/-- The row number of row `s` of matrix `b`. -/
def flat (b : Fin 2) (s : Fin 8192) : Fin 16384 := ⟨b.val * 8192 + s.val, by
  have := b.isLt
  have := s.isLt
  omega⟩

/-- The kernel's row `b·8192 + s` is the input's row `s` of matrix `b`. -/
theorem row_flat (b : Fin 2) (s : Fin 8192) :
    Block.row (X m c) (SM m c) (flat b s) = Whole.row (A0 m c) (A1 m c) b s := by
  funext k
  unfold Block.row Whole.row
  have e0 : X m c (ix2 (flat b s) k) = A0 m c (ix3 b s k) := by
    rw [X_eq]; exact cast_rows _ _ _ _ _ _ rfl
  have e1 : SM m c (ix2 0 k) = A1 m c (ix1 k) := by
    rw [SM_eq]; exact cast_row _ _ _
  rw [e0, e1]

/-- The first result is the first result array as a stack. -/
theorem tail_v4 : Pipeline.afterTail₀ cfgs (dats m) 0 (V0 m) [hostOps1] c main_v4
    = shapeCast S2x8192x4096 ((dats m 0 c).arrAt 4 (cfgs 0).N : FVec Ideal S16384x4096 .bf16)
        shapeCasts_S16384x4096_S2x8192x4096 := by
  unfold Pipeline.afterTail₀
  simp only [hostOps1, List.flatten_cons, List.flatten_nil, List.append_nil, List.cons_append, List.nil_append]
  after_results
  exact congrArg (fun x => shapeCast S2x8192x4096 x shapeCasts_S16384x4096_S2x8192x4096)
    (Pipeline.withArrays_arr spec0 (by decide) c (V0 m c) (fun w => (dats m 0 c).arrAt w (cfgs 0).N) 4)

/-- The second result is the second result array as a stack. -/
theorem tail_v5 : Pipeline.afterTail₀ cfgs (dats m) 0 (V0 m) [hostOps1] c main_v5
    = shapeCast S2x8192x3584 ((dats m 0 c).arrAt 5 (cfgs 0).N : IVec S16384x3584 8)
        shapeCasts_S16384x3584_S2x8192x3584 := by
  unfold Pipeline.afterTail₀
  simp only [hostOps1, List.flatten_cons, List.flatten_nil, List.append_nil, List.cons_append, List.nil_append]
  after_results
  exact congrArg (fun x => shapeCast S2x8192x3584 x shapeCasts_S16384x3584_S2x8192x3584)
    (Pipeline.withArrays_arr spec0 (by decide) c (V0 m c) (fun w => (dats m 0 c).arrAt w (cfgs 0).N) 5)

/-- The third result is the third result array as a stack. -/
theorem tail_v6 : Pipeline.afterTail₀ cfgs (dats m) 0 (V0 m) [hostOps1] c main_v6
    = shapeCast S2x8192x1 ((dats m 0 c).arrAt 6 (cfgs 0).N : FVec Ideal S16384x1 .f32)
        shapeCasts_S16384x1_S2x8192x1 := by
  unfold Pipeline.afterTail₀
  simp only [hostOps1, List.flatten_cons, List.flatten_nil, List.append_nil, List.cons_append, List.nil_append]
  after_results
  exact congrArg (fun x => shapeCast S2x8192x1 x shapeCasts_S16384x1_S2x8192x1)
    (Pipeline.withArrays_arr spec0 (by decide) c (V0 m c) (fun w => (dats m 0 c).arrAt w (cfgs 0).N) 6)

/-- The first result at one element, where the magnitudes of its integer products total at most 2^24 − 1: the
    reference's. -/
theorem result_eq (b : Fin 2) (s : Fin 8192) (n : Fin 4096)
    (h : ∑ k : Fin 3584, ((code (Whole.row (A0 m c) (A1 m c) b s) k).toInt * (A2 m c (ix2 k n)).toInt).natAbs ≤ 16777215) :
    (Pipeline.afterTail₀ cfgs (dats m) 0 (V0 m) [hostOps1] c main_v4 : FVec Ideal S2x8192x4096 .bf16) (ix3 b s n)
      = Cert.ReferenceIdeal.Gen.k0_pay4 (F := Ideal) (A0 m c) (A1 m c) (A2 m c) (A3 m c) (ix3 b s n) := by
  have e3 : WS m c (ix2 0 n) = A3 m c (ix1 n) := by
    rw [WS_eq]; exact cast_row _ _ _
  have h' := h
  rw [← row_flat, ← WQ_eq] at h'
  have k := results_at m c (flat b s) n h'
  rw [row_flat, WQ_eq, e3] at k
  rw [tail_v4]
  refine (cast_stack _ _ (flat b s) n b s rfl).trans (k.trans ?_)
  exact (whole_result _ _ _ _ b s n h).symm

/-- The codes at one element: the reference's. -/
theorem codes_eq (b : Fin 2) (s : Fin 8192) (k : Fin 3584) :
    (Pipeline.afterTail₀ cfgs (dats m) 0 (V0 m) [hostOps1] c main_v5 : IVec S2x8192x3584 8) (ix3 b s k)
      = Cert.ReferenceIdeal.Gen.k0_pay3 (F := Ideal) (A0 m c) (A1 m c) (ix3 b s k) := by
  have e := codes_at m c (flat b s) k
  rw [row_flat] at e
  rw [tail_v5]
  exact (cast_stack _ _ (flat b s) k b s rfl).trans (e.trans (whole_code _ _ b s k).symm)

/-- The scale of one row: the reference's. -/
theorem scales_eq (b : Fin 2) (s : Fin 8192) :
    (Pipeline.afterTail₀ cfgs (dats m) 0 (V0 m) [hostOps1] c main_v6 : FVec Ideal S2x8192x1 .f32) (ix3 b s 0)
      = Cert.ReferenceIdeal.Gen.k0_pay2 (F := Ideal) (A0 m c) (A1 m c) (ix3 b s 0) := by
  have e := scales_at m c (flat b s)
  rw [row_flat] at e
  rw [tail_v6]
  exact (cast_stack _ _ (flat b s) 0 b s rfl).trans (e.trans (whole_scale _ _ b s).symm)

/-- What a run of the kernel leaves: the three results are what the lines after the grid compute from the result arrays,
    and the arguments are unchanged. -/
theorem run (g : Dev nD → PrngReg) :
    θ_run (defs (F := Ideal)) (onTc (τ := τ) (main (F := Ideal))) ⟨m, fun _ => 0, g⟩ (fun r => ∀ c : Dev nD,
      (r.2.mem ((c.tc : Thread nD τ).loc main_v4) = Pipeline.afterTail₀ cfgs (dats m) 0 (V0 m) [hostOps1] c main_v4
      ∧ r.2.mem ((c.tc : Thread nD τ).loc main_v5) = Pipeline.afterTail₀ cfgs (dats m) 0 (V0 m) [hostOps1] c main_v5
      ∧ r.2.mem ((c.tc : Thread nD τ).loc main_v6) = Pipeline.afterTail₀ cfgs (dats m) 0 (V0 m) [hostOps1] c main_v6)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))) := by
  refine (θ_run defs _ _).mono (fun r h c => ⟨⟨?_, ?_, ?_⟩, h.2 c⟩) (θ_run_and (run_main m g) (unchanged m g))
  · exact (h.1 c).2 main_v4 (Pipeline.mem_restRefs_of main_v4 (by decide) (by decide))
  · exact (h.1 c).2 main_v5 (Pipeline.mem_restRefs_of main_v5 (by decide) (by decide))
  · exact (h.1 c).2 main_v6 (Pipeline.mem_restRefs_of main_v6 (by decide) (by decide))

end Cert.Proof.Ends

end
-- ==== Proof.Mask.lean ====
/-
  The mask under which the result is claimed, read at one element: where it is set, the magnitudes of that element's
  integer products total at most 2^24 − 1.
-/
module

public import proofs.«01_k».proof.Proof.Gen.On_in_range
public import proofs.«01_k».proof.Proof.Whole

@[expose] public section

noncomputable section

namespace Cert.Proof.Mask

open Idealize.ShloMosaic Idealize.ShloMosaic.ValueIdx

section Generic
variable {B S K N : Nat} (x : FVec Ideal ⟨3, ![B, S, K]⟩ .bf16) (sm : FVec Ideal ⟨1, ![K]⟩ .f32)
  (hlt : FTy.bits .bf16 < FTy.bits .f32) (hs : (⟨1, ![K]⟩ : Shape).BroadcastsInDim ⟨3, ![B, S, K]⟩ ![2])
  (hr : (⟨3, ![B, S, K]⟩ : Shape).ReducesTo [2] ⟨2, ![B, S]⟩) (hr' : (⟨3, ![B, S, K]⟩ : Shape).Reduces [2] ⟨2, ![B, S]⟩)
  (hu : 0 < (⟨0, ![]⟩ : Shape).numel) (hc : (⟨2, ![B, S]⟩ : Shape).BroadcastsInDim ⟨3, ![B, S, 1]⟩ ![0, 1])
  (h1 : (⟨0, ![]⟩ : Shape).BroadcastsInDim ⟨3, ![B, S, 1]⟩ ![])
  (hbc : (⟨3, ![B, S, 1]⟩ : Shape).BroadcastsInDim ⟨3, ![B, S, K]⟩ ![0, 1, 2])
  (hK : (⟨0, ![]⟩ : Shape).BroadcastsInDim ⟨3, ![B, S, K]⟩ ![])

/-- The host's quotient of the rows by the smoothing factors. -/
def quotient : FVec Ideal ⟨3, ![B, S, K]⟩ .f32 := Host.divf (extf .f32 x hlt) (broadcastInDim ⟨3, ![B, S, K]⟩ ![2] hs sm)

/-- The quotient at one element. -/
theorem quotient_apply (b : Fin B) (s : Fin S) (k : Fin K) : quotient x sm hlt hs (ix3 b s k) = Whole.row x sm b s k := by
  have e := hostBroadcast_row3 sm hs b s k
  show Ideal.div (x (ix3 b s k)) (broadcastInDim ⟨3, ![B, S, K]⟩ ![2] hs sm (ix3 b s k)) = _
  rw [e]; rfl

/-- The host's columns of the rows' largest magnitudes, of a quotient `q`. -/
def peaks (q : FVec Ideal ⟨3, ![B, S, K]⟩ .f32) : FVec Ideal ⟨3, ![B, S, 1]⟩ .f32 :=
  broadcastInDim ⟨3, ![B, S, 1]⟩ ![0, 1] hc
    (Host.reduce FloatOps.maximumf (Host.absf q) (constant ⟨0, ![]⟩ .f32 0xFF800000#32) hr hu)

/-- The host's columns of the rows' scales, of a quotient `q`. -/
def scales (q : FVec Ideal ⟨3, ![B, S, K]⟩ .f32) : FVec Ideal ⟨3, ![B, S, 1]⟩ .f32 :=
  select (cmpf .oeq (peaks hr hu hc q) (broadcastInDim ⟨3, ![B, S, 1]⟩ ![] h1 (constant ⟨0, ![]⟩ .f32 0x00000000#32)))
    (broadcastInDim ⟨3, ![B, S, 1]⟩ ![] h1 (constant ⟨0, ![]⟩ .f32 0x3F800000#32))
    (Host.divf (peaks hr hu hc q) (broadcastInDim ⟨3, ![B, S, 1]⟩ ![] h1 (constant ⟨0, ![]⟩ .f32 0x42FE0000#32)))

include hr' in
/-- The scale of one row, where `v` is that row of the quotient. -/
theorem scales_apply (q : FVec Ideal ⟨3, ![B, S, K]⟩ .f32) (b : Fin B) (s : Fin S) (v : Fin K → Ideal .f32)
    (hv : ∀ k, q (ix3 b s k) = v k) : scales hr hu hc h1 q (ix3 b s 0) = scale v := by
  have e : peaks hr hu hc q (ix3 b s 0) = peak v := by
    refine (hostBroadcast_unit3 _ _ _ _).trans ?_
    refine (congrFun (hostReduce_maximumf_eq_multiReduction (Host.absf q) 0xFF800000#32 hr hu hr' (.inl rfl) rfl) _).trans ?_
    refine (rowMax3 _ _ _ _ _ _ _).trans ?_
    unfold peak
    refine Finset.fold_congr fun k _ => ?_
    show FloatOps.absf (F := Ideal) (φ := .f32) (q (ix3 b s k)) = _
    rw [hv]
  show scaleOf (peaks hr hu hc q (ix3 b s 0)) = _
  rw [e]; rfl

/-- The host's rounded and clipped quotients, of a quotient `q` and columns of scales `t`. -/
def levels (q : FVec Ideal ⟨3, ![B, S, K]⟩ .f32) (t : FVec Ideal ⟨3, ![B, S, 1]⟩ .f32) : FVec Ideal ⟨3, ![B, S, K]⟩ .f32 :=
  maximumf (minimumf (Host.roundeven (Host.divf q (broadcastInDim ⟨3, ![B, S, K]⟩ ![0, 1, 2] hbc t)))
      (broadcastInDim ⟨3, ![B, S, K]⟩ ![] hK (constant ⟨0, ![]⟩ .f32 0x42FE0000#32)))
    (broadcastInDim ⟨3, ![B, S, K]⟩ ![] hK (constant ⟨0, ![]⟩ .f32 0xC2FE0000#32))

/-- The clipped integer at one element. -/
theorem levels_apply (q : FVec Ideal ⟨3, ![B, S, K]⟩ .f32) (t : FVec Ideal ⟨3, ![B, S, 1]⟩ .f32) (b : Fin B) (s : Fin S)
    (k : Fin K) (v : Fin K → Ideal .f32) (hv : ∀ k, q (ix3 b s k) = v k) (ht : t (ix3 b s 0) = scale v) :
    levels hbc hK q t (ix3 b s k) = level v k := by
  have e := (hostBroadcast_col3 t hbc b s k).trans ht
  show max (min (Ideal.liftRound Ideal.roundHalfEven (Ideal.div (q (ix3 b s k))
    (broadcastInDim ⟨3, ![B, S, K]⟩ ![0, 1, 2] hbc t (ix3 b s k)))) (Ideal.ofBits .f32 0x42FE0000#32))
      (Ideal.ofBits .f32 0xC2FE0000#32) = _
  rw [e, hv, ofBits_127, ofBits_neg127]
  exact (clip_swap _).symm

variable (w : IVec ⟨2, ![K, N]⟩ 8) (h832 : 8 < 32)
  (wf : DotDims.WF ⟨3, ![B, S, K]⟩ ⟨2, ![K, N]⟩ ⟨3, ![B, S, N]⟩ [2] [0] [0, 1] [1] [] [])
  (hN : (⟨0, ![]⟩ : Shape).BroadcastsInDim ⟨3, ![B, S, N]⟩ ![])

/-- Whether the magnitudes total less than 2^24, of the clipped integers `c`. -/
def mask (c : FVec Ideal ⟨3, ![B, S, K]⟩ .f32) : IVec ⟨3, ![B, S, N]⟩ 1 :=
  cmpf .olt (Host.dotGeneral (F := Ideal)
      (⟨[2], [0], [0, 1], [1], [], [], wf⟩ : DotDims ⟨3, ![B, S, K]⟩ ⟨2, ![K, N]⟩ ⟨3, ![B, S, N]⟩) none
      (Host.absf c) (Host.absf (sitofp (F := Ideal) .f32 (extsi 32 w h832))))
    (broadcastInDim ⟨3, ![B, S, N]⟩ ![] hN (constant ⟨0, ![]⟩ .f32 0x4B800000#32))

/-- Where the mask is set, the integer magnitudes total at most 2^24 − 1. -/
theorem total_of_mask (c : FVec Ideal ⟨3, ![B, S, K]⟩ .f32) (b : Fin B) (s : Fin S) (n : Fin N) (v : Fin K → Ideal .f32)
    (hc : ∀ k, c (ix3 b s k) = level v k) (h : mask w h832 wf hN c (ix3 b s n) = 1#1) :
    ∑ k : Fin K, ((code v k).toInt * (w (ix2 k n)).toInt).natAbs ≤ 16777215 := by
  have d := hostDot_stack wf none (Host.absf c) (Host.absf (sitofp (F := Ideal) .f32 (extsi 32 w h832))) b s n
  have h' : Ideal.cmp .olt (Host.dotGeneral (F := Ideal)
      (⟨[2], [0], [0, 1], [1], [], [], wf⟩ : DotDims ⟨3, ![B, S, K]⟩ ⟨2, ![K, N]⟩ ⟨3, ![B, S, N]⟩) none
      (Host.absf c) (Host.absf (sitofp (F := Ideal) .f32 (extsi 32 w h832))) (ix3 b s n))
      (Ideal.ofBits .f32 0x4B800000#32) = 1#1 := h
  rw [d, ofBits_2p24] at h'
  refine total_le v (fun k => w (ix2 k n)) ?_
  have e : ∀ k ∈ (Finset.univ : Finset (Fin K)),
      Host.absf c (ix3 b s k) * Host.absf (sitofp (F := Ideal) .f32 (extsi 32 w h832)) (ix2 k n)
      = (max (level v k) (-(level v k)))
        * (max (((w (ix2 k n)).toInt : ℝ) : EReal) (-(((w (ix2 k n)).toInt : ℝ) : EReal))) := fun k _ => by
    have e1 : ((w (ix2 k n)).signExtend 32).toInt = (w (ix2 k n)).toInt := BitVec.toInt_signExtend_of_le (by omega)
    show max (c (ix3 b s k)) (-(c (ix3 b s k)))
      * max (((((w (ix2 k n)).signExtend 32).toInt : ℝ)) : EReal) (-(((((w (ix2 k n)).signExtend 32).toInt : ℝ)) : EReal)) = _
    rw [e1, hc]
  rw [Finset.sum_congr rfl e] at h'
  by_contra hn
  have : Ideal.cmp .olt (∑ k : Fin K, (max (level v k) (-(level v k)))
        * (max (((w (ix2 k n)).toInt : ℝ) : EReal) (-(((w (ix2 k n)).toInt : ℝ) : EReal)))) ((16777216 : ℝ) : EReal)
      = 0#1 := by
    show BitVec.ofBool (decide _) = _
    rw [decide_eq_false hn]; rfl
  rw [this] at h'
  exact absurd h' (by decide)

end Generic

section Printed
open Cert.On_in_range Cert.On_in_range.Facts

variable [Cert.On_in_range.Facts] (x : FVec Ideal S2x8192x3584 .bf16) (sm : FVec Ideal S3584 .f32)
  (w : IVec S3584x4096 8) (ws : FVec Ideal S4096 .f32)

/-- The printed mask of the result is `mask` of the host's clipped integers. -/
theorem fn_eq : (Cert.On_in_range.fn (F := Ideal) x sm w ws).1
    = mask w natLt_8_32 dot_S2x8192x3584_S3584x4096_S2x8192x4096_2_0_01_1_n_n_wf bcast_S_S2x8192x4096
        (levels bcast_S2x8192x1_S2x8192x3584_0_1_2 bcast_S_S2x8192x3584
          (quotient x sm bitsLt_bf16_f32 bcast_S3584_S2x8192x3584_2)
          (scales reducesTo_S2x8192x3584_S2x8192_d2 h_S_ bcast_S2x8192_S2x8192x1_0_1 bcast_S_S2x8192x1
            (quotient x sm bitsLt_bf16_f32 bcast_S3584_S2x8192x3584_2))) := by
  unfold Cert.On_in_range.fn Cert.On_in_range.fn_part1 mask levels quotient scales peaks
    dot_S2x8192x3584_S3584x4096_S2x8192x4096_2_0_01_1_n_n
  rfl

/-- Where the printed mask is set, the integer magnitudes of that element's products total at most 2^24 − 1. -/
theorem total_of_fn (b : Fin 2) (s : Fin 8192) (n : Fin 4096)
    (hr' : (⟨3, ![2, 8192, 3584]⟩ : Shape).Reduces [2] ⟨2, ![2, 8192]⟩)
    (h : (Cert.On_in_range.fn (F := Ideal) x sm w ws).1 (ix3 b s n) = 1#1) :
    ∑ k : Fin 3584, ((code (Whole.row x sm b s) k).toInt * (w (ix2 k n)).toInt).natAbs ≤ 16777215 := by
  rw [fn_eq] at h
  have q := quotient_apply x sm bitsLt_bf16_f32 bcast_S3584_S2x8192x3584_2 b s
  exact total_of_mask w natLt_8_32 dot_S2x8192x3584_S3584x4096_S2x8192x4096_2_0_01_1_n_n_wf bcast_S_S2x8192x4096
    _ b s n (Whole.row x sm b s)
    (fun k => levels_apply _ _ _ _ b s k _ q (scales_apply _ hr' _ _ _ _ b s _ q)) h

end Printed

end Cert.Proof.Mask

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.On_in_range
public import proofs.«01_k».proof.Proof.Ends
public import proofs.«01_k».proof.Proof.Mask
public import Idealize.ShloMosaic.Adequacy
public import Idealize.ShloMosaic.Init

@[expose] public section

noncomputable section

namespace Cert.Proof

open Idealize.ShloMosaic Idealize.SL.Sem Cert.Kernel

/-- The value claim. From memories with the same arguments, the kernel and the reference end with the same three arrays,
    the arrays being the reference's: the codes and the row scales at every element, the product at every element the
    mask selects. -/
theorem value : @algebraic_KernelIdeal_ReferenceIdeal_on_in_range Cert.KernelIdeal.Gen.facts Cert.ReferenceIdeal.Gen.facts
    Cert.On_in_range.Gen.facts := by
  intro m g m' g' _ hargs
  refine ⟨fun c => Cert.ReferenceIdeal.Gen.k0_pay4 (F := Ideal) (Ends.A0 m c) (Ends.A1 m c) (Ends.A2 m c) (Ends.A3 m c),
    fun c => Cert.ReferenceIdeal.Gen.k0_pay3 (F := Ideal) (Ends.A0 m c) (Ends.A1 m c),
    fun c => Cert.ReferenceIdeal.Gen.k0_pay2 (F := Ideal) (Ends.A0 m c) (Ends.A1 m c), ?_, ?_⟩
  · refine (θ_run Cert.KernelIdeal.defs _ _).mono (fun r h c => ?_) (Ends.run m g)
    obtain ⟨⟨h4, h5, h6⟩, h0, h1, h2, h3⟩ := h c
    refine ⟨fun i hi => ?_, fun i _ => ?_, fun i _ => ?_, h0, h1, h2, h3⟩
    · rw [h4]
      obtain ⟨b, s, n, rfl⟩ : ∃ (b : Fin 2) (s : Fin 8192) (n : Fin 4096), i = ix3 b s n := ⟨_, _, _, eq_ix3 i⟩
      exact Ends.result_eq m c b s n (Mask.total_of_fn _ _ _ _ b s n Cert.ReferenceIdeal.Gen.reduces_S2x8192x3584_S2x8192 hi)
    · rw [h5]
      obtain ⟨b, s, k, rfl⟩ : ∃ (b : Fin 2) (s : Fin 8192) (k : Fin 3584), i = ix3 b s k := ⟨_, _, _, eq_ix3 i⟩
      exact Ends.codes_eq m c b s k
    · rw [h6]
      obtain ⟨b, s, z, rfl⟩ : ∃ (b : Fin 2) (s : Fin 8192) (z : Fin 1), i = ix3 b s z := ⟨_, _, _, eq_ix3 i⟩
      obtain rfl : z = 0 := Subsingleton.elim _ _
      exact Ends.scales_eq m c b s
  · refine (θ_run Cert.ReferenceIdeal.defs _ _).mono (fun r h c => ?_) (Cert.ReferenceIdeal.Value.run m' g')
    obtain ⟨h4, h5, h6, h0, h1, h2, h3⟩ := h c
    obtain ⟨e0, e1, e2, e3⟩ := hargs c
    rw [e0, e1, e2, e3] at h4
    rw [e0, e1] at h5 h6
    exact ⟨fun i _ => congrFun h4 i, fun i _ => congrFun h5 i, fun i _ => congrFun h6 i, h0, h1, h2, h3⟩

/-- Everything the certificate claims. -/
theorem claim : Cert.Claim := ⟨Cert.Kernel.Gen.facts, Cert.KernelIdeal.Gen.facts, Cert.ReferenceIdeal.Gen.facts, Cert.On_in_range.Gen.facts,
  fun m ρ _ => Cert.Kernel.Gen.frame m ρ, fun m ρ _ => Cert.KernelIdeal.Gen.frame m ρ,
  fun m ρ _ => Cert.ReferenceIdeal.Gen.frame m ρ, trivial, value⟩

end Cert.Proof

end
